-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1x1024 : Shape := ⟨2, ![1, 1024]⟩
abbrev S2x256x1024 : Shape := ⟨3, ![2, 256, 1024]⟩
abbrev S2 : Shape := ⟨1, ![2]⟩
abbrev S4x1x1024 : Shape := ⟨3, ![4, 1, 1024]⟩
abbrev S3 : Shape := ⟨1, ![3]⟩
abbrev S1 : Shape := ⟨1, ![1]⟩
abbrev S_ : Shape := ⟨0, ![]⟩
abbrev S1x256x1024 : Shape := ⟨3, ![1, 256, 1024]⟩
abbrev S256x1024 : Shape := ⟨2, ![256, 1024]⟩
abbrev S1024 : Shape := ⟨1, ![1024]⟩
abbrev S1x1x1024 : Shape := ⟨3, ![1, 1, 1024]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S1x1024, .f32⟩
  | .local _ .vmem, ⟨1, _⟩ => ⟨S2x256x1024, .f32⟩
  | .local _ .vmem, ⟨2, _⟩ => ⟨S4x1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v9 : BitVec 32 := Scalar.addi v2 c1_i32_5
  let c4_i32_6 : BitVec 32 := 4#32
  let c0_i32_7 : BitVec 32 := 0#32
  let v10 : BitVec 1 := Scalar.cmpi .eq c4_i32_6 c0_i32_7
  let c1_i32_8 : BitVec 32 := 1#32
  let v11 : BitVec 32 := Scalar.select v10 c1_i32_8 c4_i32_6
  let v12 : BitVec 32 := Scalar.remsi v9 v11
  let c0_i32_10 : BitVec 32 := 0#32
  let v14 : BitVec 1 := Scalar.cmpi .slt v12 c0_i32_10
  let c0_i32_11 : BitVec 32 := 0#32
  let v15 : BitVec 1 := Scalar.cmpi .slt v11 c0_i32_11
  let v16 : BitVec 1 := Scalar.xori v14 v15
  let c0_i32_9 : BitVec 32 := 0#32
  let v13 : BitVec 1 := Scalar.cmpi .ne v12 c0_i32_9
  let v17 : BitVec 1 := Scalar.andi v16 v13
  let v18 : BitVec 32 := Scalar.addi v12 v11
  let v19 : BitVec 32 := Scalar.select v17 v18 v12
  let c1_i32_13 : BitVec 32 := 1#32
  let v20 : BitVec 32 := Scalar.muli v19 c1_i32_13
  let v21 : BitVec 32 := Scalar.addi c0_i32_14 v20
  v21.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v22 : BitVec 32 := Scalar.addi v2 c2_i32
  let c4_i32_15 : BitVec 32 := 4#32
  let c0_i32_16 : BitVec 32 := 0#32
  let v23 : BitVec 1 := Scalar.cmpi .eq c4_i32_15 c0_i32_16
  let c1_i32_17 : BitVec 32 := 1#32
  let v24 : BitVec 32 := Scalar.select v23 c1_i32_17 c4_i32_15
  let v25 : BitVec 32 := Scalar.remsi v22 v24
  let c0_i32_19 : BitVec 32 := 0#32
  let v27 : BitVec 1 := Scalar.cmpi .slt v25 c0_i32_19
  let c0_i32_20 : BitVec 32 := 0#32
  let v28 : BitVec 1 := Scalar.cmpi .slt v24 c0_i32_20
  let v29 : BitVec 1 := Scalar.xori v27 v28
  let c0_i32_18 : BitVec 32 := 0#32
  let v26 : BitVec 1 := Scalar.cmpi .ne v25 c0_i32_18
  let v30 : BitVec 1 := Scalar.andi v29 v26
  let v31 : BitVec 32 := Scalar.addi v25 v24
  let v32 : BitVec 32 := Scalar.select v30 v31 v25
  let c1_i32_22 : BitVec 32 := 1#32
  let v33 : BitVec 32 := Scalar.muli v32 c1_i32_22
  let v34 : BitVec 32 := Scalar.addi c0_i32_23 v33
  v34.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v35 : BitVec 32 := Scalar.addi v2 c3_i32
  let c4_i32_24 : BitVec 32 := 4#32
  let c0_i32_25 : BitVec 32 := 0#32
  let v36 : BitVec 1 := Scalar.cmpi .eq c4_i32_24 c0_i32_25
  let c1_i32_26 : BitVec 32 := 1#32
  let v37 : BitVec 32 := Scalar.select v36 c1_i32_26 c4_i32_24
  let v38 : BitVec 32 := Scalar.remsi v35 v37
  let c0_i32_28 : BitVec 32 := 0#32
  let v40 : BitVec 1 := Scalar.cmpi .slt v38 c0_i32_28
  let c0_i32_29 : BitVec 32 := 0#32
  let v41 : BitVec 1 := Scalar.cmpi .slt v37 c0_i32_29
  let v42 : BitVec 1 := Scalar.xori v40 v41
  let c0_i32_27 : BitVec 32 := 0#32
  let v39 : BitVec 1 := Scalar.cmpi .ne v38 c0_i32_27
  let v43 : BitVec 1 := Scalar.andi v42 v39
  let v44 : BitVec 32 := Scalar.addi v38 v37
  let v45 : BitVec 32 := Scalar.select v43 v44 v38
  let c1_i32_31 : BitVec 32 := 1#32
  let v46 : BitVec 32 := Scalar.muli v45 c1_i32_31
  let v47 : BitVec 32 := Scalar.addi c0_i32_32 v46
  v47.toNat
def k0_dev4 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_150 : BitVec 32 := 1#32
  let v167 : BitVec 32 := Scalar.addi v2 c1_i32_150
  let c4_i32_151 : BitVec 32 := 4#32
  let c0_i32_152 : BitVec 32 := 0#32
  let v168 : BitVec 1 := Scalar.cmpi .eq c4_i32_151 c0_i32_152
  let c1_i32_153 : BitVec 32 := 1#32
  let v169 : BitVec 32 := Scalar.select v168 c1_i32_153 c4_i32_151
  let v170 : BitVec 32 := Scalar.remsi v167 v169
  let c0_i32_155 : BitVec 32 := 0#32
  let v172 : BitVec 1 := Scalar.cmpi .slt v170 c0_i32_155
  let c0_i32_156 : BitVec 32 := 0#32
  let v173 : BitVec 1 := Scalar.cmpi .slt v169 c0_i32_156
  let v174 : BitVec 1 := Scalar.xori v172 v173
  let c0_i32_154 : BitVec 32 := 0#32
  let v171 : BitVec 1 := Scalar.cmpi .ne v170 c0_i32_154
  let v175 : BitVec 1 := Scalar.andi v174 v171
  let v176 : BitVec 32 := Scalar.addi v170 v169
  let v177 : BitVec 32 := Scalar.select v175 v176 v170
  let c1_i32_161 : BitVec 32 := 1#32
  let v178 : BitVec 32 := Scalar.muli v177 c1_i32_161
  let v179 : BitVec 32 := Scalar.addi c0_i32_162 v178
  v179.toNat
def k0_dev5 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_167 : BitVec 32 := 2#32
  let v188 : BitVec 32 := Scalar.addi v2 c2_i32_167
  let c4_i32_168 : BitVec 32 := 4#32
  let c0_i32_169 : BitVec 32 := 0#32
  let v189 : BitVec 1 := Scalar.cmpi .eq c4_i32_168 c0_i32_169
  let c1_i32_170 : BitVec 32 := 1#32
  let v190 : BitVec 32 := Scalar.select v189 c1_i32_170 c4_i32_168
  let v191 : BitVec 32 := Scalar.remsi v188 v190
  let c0_i32_172 : BitVec 32 := 0#32
  let v193 : BitVec 1 := Scalar.cmpi .slt v191 c0_i32_172
  let c0_i32_173 : BitVec 32 := 0#32
  let v194 : BitVec 1 := Scalar.cmpi .slt v190 c0_i32_173
  let v195 : BitVec 1 := Scalar.xori v193 v194
  let c0_i32_171 : BitVec 32 := 0#32
  let v192 : BitVec 1 := Scalar.cmpi .ne v191 c0_i32_171
  let v196 : BitVec 1 := Scalar.andi v195 v192
  let v197 : BitVec 32 := Scalar.addi v191 v190
  let v198 : BitVec 32 := Scalar.select v196 v197 v191
  let c1_i32_178 : BitVec 32 := 1#32
  let v199 : BitVec 32 := Scalar.muli v198 c1_i32_178
  let v200 : BitVec 32 := Scalar.addi c0_i32_179 v199
  v200.toNat
def k0_dev6 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_184 : BitVec 32 := 3#32
  let v209 : BitVec 32 := Scalar.addi v2 c3_i32_184
  let c4_i32_185 : BitVec 32 := 4#32
  let c0_i32_186 : BitVec 32 := 0#32
  let v210 : BitVec 1 := Scalar.cmpi .eq c4_i32_185 c0_i32_186
  let c1_i32_187 : BitVec 32 := 1#32
  let v211 : BitVec 32 := Scalar.select v210 c1_i32_187 c4_i32_185
  let v212 : BitVec 32 := Scalar.remsi v209 v211
  let c0_i32_189 : BitVec 32 := 0#32
  let v214 : BitVec 1 := Scalar.cmpi .slt v212 c0_i32_189
  let c0_i32_190 : BitVec 32 := 0#32
  let v215 : BitVec 1 := Scalar.cmpi .slt v211 c0_i32_190
  let v216 : BitVec 1 := Scalar.xori v214 v215
  let c0_i32_188 : BitVec 32 := 0#32
  let v213 : BitVec 1 := Scalar.cmpi .ne v212 c0_i32_188
  let v217 : BitVec 1 := Scalar.andi v216 v213
  let v218 : BitVec 32 := Scalar.addi v212 v211
  let v219 : BitVec 32 := Scalar.select v217 v218 v212
  let c1_i32_195 : BitVec 32 := 1#32
  let v220 : BitVec 32 := Scalar.muli v219 c1_i32_195
  let v221 : BitVec 32 := Scalar.addi c0_i32_196 v220
  v221.toNat
abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.KernelIdealSlots.lean ====
/-
# The buffers, cut the way the kernel uses them

Device `c` reads its rows of the argument in eight blocks of 256 rows, through two staging slots, and keeps
four row vectors of 1024 entries in its exchange buffer: slot 0 is its own column sums, slot `k` the column
sums of the device `k` places before it. This file names the pieces, says what each of them holds, and proves
what a read or a write through one piece means for the whole buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Pipeline.ValueKit.Geometry
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The four devices in a circle -/

set_option backward.proofsInPublic true in
/-- The device `d + 1` places after `c`. -/
def up (d : Fin 3) (c : Dev nD) : Dev nD := ⟨(c.val + d.val + 1) % 4, Nat.mod_lt _ (by decide)⟩

set_option backward.proofsInPublic true in
/-- The device `k` places before `c`. -/
def before (k : Fin 4) (c : Dev nD) : Dev nD := ⟨(c.val + (4 - k.val)) % 4, Nat.mod_lt _ (by decide)⟩

/-- Going `d + 1` places on and the rest of the circle on is going round. -/
theorem up_rev_up (d : Fin 3) (c : Dev nD) : up d.rev (up d c) = c := by revert d c; decide
theorem up_up_rev (d : Fin 3) (c : Dev nD) : up d (up d.rev c) = c := by revert d c; decide
theorem before_zero (c : Dev nD) : before 0 c = c := by revert c; decide
theorem before_succ_up (d : Fin 3) (c : Dev nD) : before d.succ (up d c) = c := by revert d c; decide
theorem up_eq_iff (d : Fin 3) (a b : Dev nD) : a = up d b ↔ b = up d.rev a := by revert d a b; decide

/-- Going `d + 1` places on, as a permutation of the devices. -/
def turn (d : Fin 3) : Dev nD ≃ Dev nD := ⟨up d, up d.rev, up_rev_up d, up_up_rev d⟩

/-- The devices the kernel's signals and copies name. -/
theorem dev1_eq (c : Dev nD) : (⟨k0_dev1 c, k0_dev1_lt c⟩ : Dev nD) = up 0 c := by revert c; decide
theorem dev2_eq (c : Dev nD) : (⟨k0_dev2 c, k0_dev2_lt c⟩ : Dev nD) = up 1 c := by revert c; decide
theorem dev3_eq (c : Dev nD) : (⟨k0_dev3 c, k0_dev3_lt c⟩ : Dev nD) = up 2 c := by revert c; decide
theorem dev4_eq (c : Dev nD) : (⟨k0_dev4 c, k0_dev4_lt c⟩ : Dev nD) = up 0 c := by revert c; decide
theorem dev5_eq (c : Dev nD) : (⟨k0_dev5 c, k0_dev5_lt c⟩ : Dev nD) = up 1 c := by revert c; decide
theorem dev6_eq (c : Dev nD) : (⟨k0_dev6 c, k0_dev6_lt c⟩ : Dev nD) = up 2 c := by revert c; decide

/-! ## The pieces -/

/-- The argument's rows on this device, the staging buffer, the exchange buffer and the result, whole. -/
abbrev xM : Memref sig .tc .hbm S2048x1024 .f32 := Memref.whole main_arg0
abbrev bufM : Memref sig .tc .vmem S2x256x1024 .f32 := Memref.whole cc0_scratch0
abbrev commM : Memref sig .tc .vmem S4x1x1024 .f32 := Memref.whole cc0_scratch2
abbrev outM : Memref sig .tc .vmem S1x1024 .f32 := Memref.whole cc0_stg0_0

theorem blk_inb (j : Fin 8) : ∀ a, (![256 * j.val, 0] : Fin 2 → ℕ) a + S256x1024.size a ≤ S2048x1024.size a := by
  revert j; decide
theorem half_inb (b : Fin 2) : ∀ a, (![b.val, 0, 0] : Fin 3 → ℕ) a + S1x256x1024.size a ≤ S2x256x1024.size a := by
  revert b; decide
theorem slot_inb (k : Fin 4) : ∀ a, (![k.val, 0, 0] : Fin 3 → ℕ) a + S1x1x1024.size a ≤ S4x1x1024.size a := by
  revert k; decide

/-- Rows `256 j … 256 j + 255` of the argument's rows on this device. -/
abbrev blkR (j : Fin 8) : Rect S2048x1024 := Rect.unit (s := S2048x1024) ![256 * j.val, 0] S256x1024.size (blk_inb j)
abbrev blkM (j : Fin 8) : Memref sig .tc .hbm S256x1024 .f32 := xM.slice (blkR j) (fun _ => rfl)
/-- Staging slot `b`. -/
abbrev halfR (b : Fin 2) : Rect S2x256x1024 := Rect.unit (s := S2x256x1024) ![b.val, 0, 0] S1x256x1024.size (half_inb b)
abbrev halfM (b : Fin 2) : Memref sig .tc .vmem S256x1024 .f32 :=
  (bufM.slice (halfR b) (fun _ => rfl)).squeeze S256x1024 squeezes_S1x256x1024_S256x1024
/-- Exchange slot `k`. -/
abbrev slotR (k : Fin 4) : Rect S4x1x1024 := Rect.unit (s := S4x1x1024) ![k.val, 0, 0] S1x1x1024.size (slot_inb k)
abbrev slotM (k : Fin 4) : Memref sig .tc .vmem S1x1024 .f32 :=
  (commM.slice (slotR k) (fun _ => rfl)).squeeze S1x1024 squeezes_S1x1x1024_S1x1024

/-- The elements of staging slot `b`, and of exchange slot `k`. -/
abbrev halfS (b : Fin 2) : Finset (S2x256x1024.Idx) := (halfM b).view.set
abbrev slotS (k : Fin 4) : Finset (S4x1x1024.Idx) := (slotM k).view.set

/-- An entry of the staging buffer is in slot `b` when its first coordinate is `b`; -/
theorem mem_half (b : Fin 2) (i : S2x256x1024.Idx) : i ∈ halfS b ↔ (i 0).val = b.val := by
  have h : halfS b = (halfR b).set := by
    show ((View.slice (.whole cc0_scratch0) (halfR b)).reshape S256x1024 _).set = _
    rw [View.set_reshape, View.set_slice_whole]
  rw [h, Rect.mem_set_unit]
  constructor
  · intro h; have := h 0; simp at this; omega
  · intro h a; have := (i a).isLt; fin_cases a <;> simp at this ⊢ <;> omega

/-- an entry of the exchange buffer is in slot `k` when its first coordinate is `k`. -/
theorem mem_slot (k : Fin 4) (i : S4x1x1024.Idx) : i ∈ slotS k ↔ (i 0).val = k.val := by
  have h : slotS k = (slotR k).set := by
    show ((View.slice (.whole cc0_scratch2) (slotR k)).reshape S1x1024 _).set = _
    rw [View.set_reshape, View.set_slice_whole]
  rw [h, Rect.mem_set_unit]
  constructor
  · intro h; have := h 0; simp at this; omega
  · intro h a; have := (i a).isLt; fin_cases a <;> simp at this ⊢ <;> omega

/-- The slots of a buffer share no entry and leave none out. -/
theorem half_disjoint (b b' : Fin 2) (h : b' ≠ b) : Disjoint (halfS b) (halfS b') :=
  Finset.disjoint_left.mpr fun i hi hi' => h (Fin.ext (((mem_half b' i).mp hi').symm.trans ((mem_half b i).mp hi)))
theorem half_cover : (Finset.univ : Finset (Fin 2)).biUnion halfS = Finset.univ :=
  Finset.eq_univ_iff_forall.mpr fun i =>
    Finset.mem_biUnion.mpr ⟨(i 0 : Fin 2), Finset.mem_univ _, (mem_half (i 0 : Fin 2) i).mpr rfl⟩
theorem slot_disjoint (k k' : Fin 4) (h : k' ≠ k) : Disjoint (slotS k) (slotS k') :=
  Finset.disjoint_left.mpr fun i hi hi' => h (Fin.ext (((mem_slot k' i).mp hi').symm.trans ((mem_slot k i).mp hi)))
theorem slot_cover : (Finset.univ : Finset (Fin 4)).biUnion slotS = Finset.univ :=
  Finset.eq_univ_iff_forall.mpr fun i =>
    Finset.mem_biUnion.mpr ⟨(i 0 : Fin 4), Finset.mem_univ _, (mem_slot (i 0 : Fin 4) i).mpr rfl⟩

/-- A load or a store at a slot's rectangle touches that slot's entries and no others. -/
theorem half_access (b : Fin 2) : bufM.view.setOn (halfR b).toLoadRect.set ⊆ halfS b := by
  have h : halfS b = (bufM.view.slice (halfR b)).set := View.set_reshape _ _
  rw [h, View.set_slice]; exact fun _ h => h
theorem slot_access (k : Fin 4) : commM.view.setOn (slotR k).toLoadRect.set ⊆ slotS k := by
  have h : slotS k = (commM.view.slice (slotR k)).set := View.set_reshape _ _
  rw [h, View.set_slice]; exact fun _ h => h
theorem slot_store (k : Fin 4) : (commM.access (slotR k)).setOn Finset.univ ⊆ slotS k := by
  have h : slotS k = (commM.view.slice (slotR k)).set := View.set_reshape _ _
  rw [h]; exact fun _ h => h

/-! ## What the pieces hold -/

theorem casts_blk : S256x1024.ShapeCasts S1x256x1024 := by decide
theorem casts_slot : S1x1024.ShapeCasts S1x1x1024 := by decide

variable (x : Dev nD → Vec F S2048x1024 .f32)

/-- Block `j` of device `c`'s rows, as a load from a staging slot reads it. -/
def blk (c : Dev nD) (j : Fin 8) : Vec F S1x256x1024 .f32 :=
  shapeCast S1x256x1024 ((blkM j).view.read (Elt F) (x c)) casts_blk

/-- The column sums of device `c`'s rows, in the order the kernel adds them. -/
def acc (c : Dev nD) : Vec F S1x1x1024 .f32 :=
  k0_pay6 (k0_pay5 (k0_pay4 (k0_pay3 (k0_pay2 (F := F)) (blk x c 0) (blk x c 1)) (blk x c 2) (blk x c 3))
    (blk x c 4) (blk x c 5)) (blk x c 6) (blk x c 7)

/-- What device `c` stores as its result. -/
def out (c : Dev nD) : Vec F S1x1024 .f32 :=
  k0_pay1 (k0_pay7 (acc x (before 0 c)) (acc x (before 1 c)) (acc x (before 2 c)) (acc x (before 3 c)))

set_option backward.proofsInPublic true in
/-- An entry of the exchange buffer, counted inside its slot. -/
def inSlot (i : S4x1x1024.Idx) : S1x1x1024.Idx := fun a =>
  ⟨if a = 0 then 0 else (i a).val, by
    have := (i a).isLt; fin_cases a <;> simp_all⟩

/-- The exchange buffer of device `c` once every copy has arrived: in slot `k` the column sums of the device `k`
    places before. -/
def comm (c : Dev nD) : Vec F S4x1x1024 .f32 := fun i => acc x (before (i 0 : Fin 4) c) (inSlot i)

/-- A slot's load from the finished exchange buffer reads the column sums kept there. -/
theorem comm_load (c : Dev nD) (k : Fin 4) :
    commM.view.readAt (Elt F) (slotR k).toLoadRect (comm x c) = acc x (before k c) := by
  funext y
  show acc x (before (((slotR k).emb y) 0 : Fin 4) c) (inSlot ((slotR k).emb y)) = _
  have h0 : (((slotR k).emb y) 0 : Fin 4) = k := by
    apply Fin.ext
    have hv := ValueKit.rect_emb_unit_val (s := S4x1x1024) ![k.val, 0, 0] S1x1x1024.size (slot_inb k) y 0
    have hy : (y 0).val < 1 := (y 0).isLt
    simp at hv ⊢
  have h1 : inSlot ((slotR k).emb y) = y := by
    funext a; apply Fin.ext
    have hv := ValueKit.rect_emb_unit_val (s := S4x1x1024) ![k.val, 0, 0] S1x1x1024.size (slot_inb k) y a
    have hy := (y a).isLt
    unfold inSlot
    fin_cases a <;> simp at hv hy ⊢ <;> omega
  rw [h0, h1]

/-- The same through the view a copy names the slot by. -/
theorem comm_read (c : Dev nD) (k : Fin 4) :
    (slotM k).view.read (Elt F) (comm x c) = shapeCast S1x1024 (acc x (before k c)) shapeCasts_S1x1x1024_S1x1024 := by
  rw [← comm_load]; exact Memref.read_squeeze_slice commM (slotR k) _ _ _ _

/-- A write of what a buffer would read through a view makes the view's entries that buffer's. -/
theorem write_agrees {sp : Space} {s : Shape} {e : EltTy} (v : View sig .tc sp s e) (f g : v.ty.Contents (Elt F))
    (w : s.Idx → Elt F e) (h : v.read (Elt F) g = w) : ∀ i ∈ v.set, v.write (Elt F) f w Finset.univ i = g i := by
  intro i hi
  subst h
  rw [View.write_read_eq_piecewise]
  exact Finset.piecewise_eq_of_mem _ _ _ hi

/-- The kernel's store of its own column sums makes slot 0 what the finished buffer has there. -/
theorem store_agrees (c : Dev nD) (f : Vec F S4x1x1024 .f32) :
    ∀ i ∈ slotS 0, (commM.access (slotR 0)).write (Elt F) f (acc x c) Finset.univ i = comm x c i := by
  intro i hi
  have h : slotS 0 = (commM.view.slice (slotR 0)).set := View.set_reshape _ _
  refine write_agrees (commM.access (slotR 0)) f (comm x c) (acc x c) ?_ i (h ▸ hi)
  exact (comm_load x c 0).trans (congrArg (acc x) (before_zero c))

/-- A copy of slot 0 into slot `d + 1` of the device `d + 1` places on makes that slot what the finished buffer
    of that device has there. -/
theorem copy_agrees (c : Dev nD) (d : Fin 3) (f : Vec F S4x1x1024 .f32) :
    ∀ i ∈ slotS d.succ, (slotM d.succ).view.write (Elt F) f ((slotM 0).view.read (Elt F) (comm x c)) Finset.univ i
      = comm x (up d c) i := by
  refine write_agrees (slotM d.succ).view f (comm x (up d c)) _ ?_
  rw [comm_read, comm_read, before_zero, before_succ_up]

/-- A load at a staging slot's rectangle, from contents the slot's own view reads as `w`. -/
theorem half_load (b : Fin 2) (g : Vec F S2x256x1024 .f32) (w : Vec F S256x1024 .f32)
    (h : (halfM b).view.read (Elt F) g = w) :
    bufM.view.readAt (Elt F) (halfR b).toLoadRect g = shapeCast S1x256x1024 w casts_blk := by
  subst h
  exact (shapeCast_shapeCast (s := S1x256x1024) (t := S256x1024)
    (bufM.view.readAt (Elt F) (halfR b).toLoadRect g) shapeCasts_S1x256x1024_S256x1024 casts_blk).symm

/-- A staging slot a block was copied into loads as that block. -/
theorem landed_load (c : Dev nD) (j : Fin 8) (b : Fin 2) (f : Vec F S2x256x1024 .f32) :
    bufM.view.readAt (Elt F) (halfR b).toLoadRect
      ((halfM b).view.write (Elt F) f ((blkM j).view.read (Elt F) (x c)) Finset.univ) = blk x c j := by
  exact half_load b _ _ (View.read_write_univ _ _)

end Cert.KernelIdealRun

end
-- ==== Proof.KernelIdealProtocol.lean ====
/-
# Who hands what to whom

Every device has seven semaphore cells the others can reach or its own copies complete on: the barrier cell, and
for each of the three distances `d + 1` a send cell and a receive cell. Each cell runs through one round.

* Barrier cell of `c`: one unit from each of the other devices. The unit of the device `d + 1` places on hands
  `c` that device's exchange slot `d + 1`, which `c` is going to write.
* Send cell `d` of `c`: the credit of `c`'s own copy over distance `d + 1`, handing back the share of slot 0 the
  copy read.
* Receive cell `d` of `c`: the credit of the copy that arrives over distance `d + 1`, handing slot `d + 1` with
  the sender's column sums in it.
-/
module

public import proofs.«01_k».proof.Proof.KernelIdealSlots

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the staging's rounds, the exchange's rounds, and the counters of the copies on the device -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds in the machine's algebra. -/
def EX : Emb UX (MT nD τ sig Unit (Elt F) ℕ UU ℕ) := (Emb.inl : Emb UX (UX × Counters)).trans embR
instance EX_landsIn : (EX : Emb UX 𝕄).LandsIn (upEmb : UEmb _ 𝕄) := by unfold EX; infer_instance

/-! ## The cells -/

set_option backward.proofsInPublic true in
/-- The semaphores of staging slot `b`, and of the copies sent and received over distance `d + 1`. -/
def ldS (b : Fin 2) : DmaSem sig := ⟨1 + b.val, by show 1 + b.val < 9; omega⟩
set_option backward.proofsInPublic true in
def sndS (d : Fin 3) : DmaSem sig := ⟨3 + d.val, by show 3 + d.val < 9; omega⟩
set_option backward.proofsInPublic true in
def rcvS (d : Fin 3) : DmaSem sig := ⟨6 + d.val, by show 6 + d.val < 9; omega⟩
abbrev barS : Sem sig := (SemArray.scalar (sig.barrier 0 rfl) : Sems sig S_).sem

abbrev barCell (c : Dev nD) : GSem nD τ sig := ((c : Thread nD τ), .reg barS)
abbrev ldCell (c : Dev nD) (b : Fin 2) : GSem nD τ sig := ((c : Thread nD τ), .dma (ldS b))
abbrev sndCell (c : Dev nD) (d : Fin 3) : GSem nD τ sig := ((c : Thread nD τ), .dma (sndS d))
abbrev rcvCell (c : Dev nD) (d : Fin 3) : GSem nD τ sig := ((c : Thread nD τ), .dma (rcvS d))

/-- What a semaphore is for. -/
inductive Role where
  | bar
  | snd (d : Fin 3)
  | rcv (d : Fin 3)
  | stage
  deriving DecidableEq

set_option backward.proofsInPublic true in
def role : SemLoc sig → Role
  | .reg _ => .bar
  | .dma q => if h : 6 ≤ q.val then .rcv ⟨q.val - 6, by have : q.val < 9 := q.isLt; omega⟩
      else if h' : 3 ≤ q.val then .snd ⟨q.val - 3, by omega⟩ else .stage

theorem role_bar (s : Sem sig) : role (.reg s) = .bar := rfl
theorem role_snd (d : Fin 3) : role (.dma (sndS d)) = .snd d := by revert d; decide
theorem role_rcv (d : Fin 3) : role (.dma (rcvS d)) = .rcv d := by revert d; decide
theorem role_ld (b : Fin 2) : role (.dma (ldS b)) = .stage := by revert b; decide

/-- A device's seven cells in one row: barrier, three send cells, three receive cells. -/
abbrev sndNo (d : Fin 3) : Fin 7 := ⟨d.val + 1, by omega⟩
abbrev rcvNo (d : Fin 3) : Fin 7 := ⟨d.val + 4, by omega⟩
def csem : Fin 7 → SemLoc sig := ![.reg barS, .dma (sndS 0), .dma (sndS 1), .dma (sndS 2), .dma (rcvS 0), .dma (rcvS 1), .dma (rcvS 2)]
abbrev kcell (p : Dev nD × Fin 7) : GSem nD τ sig := ((p.1 : Thread nD τ), csem p.2)
theorem kcell_bar (c : Dev nD) : kcell (c, 0) = barCell c := rfl
theorem kcell_snd (c : Dev nD) (d : Fin 3) : kcell (c, sndNo d) = sndCell c d := by revert d; intro d; fin_cases d <;> rfl
theorem kcell_rcv (c : Dev nD) (d : Fin 3) : kcell (c, rcvNo d) = rcvCell c d := by revert d; intro d; fin_cases d <;> rfl

/-- The credit of one slot's copy, and of one block's. -/
abbrev N : ℕ := (slotM 0).view.dmaCredit
abbrev NB : ℕ := (halfM 0).view.dmaCredit
theorem N_pos : 0 < N := View.dmaCredit_pos _ (by decide)
theorem NB_pos : 0 < NB := View.dmaCredit_pos _ (by decide)
theorem credit_slot (k : Fin 4) : (slotM k).view.dmaCredit = N := rfl
theorem credit_half (b : Fin 2) : (halfM b).view.dmaCredit = NB := rfl

/-! ## The resources that change hands -/

/-- Exchange slot `k` of device `c` at share `q`, holding `f` there. -/
def slotAt (c : Dev nD) (k : Fin 4) (q : PosShare TreeShare) (f : Vec F S4x1x1024 .f32) : sProp 𝕄 :=
  ((c : Thread nD τ).loc cc0_scratch2) ↦[slotS k]{q} f

instance slotAt_storable (c : Dev nD) (k : Fin 4) (q) (f) : BI.Storable (upEmb : UEmb _ 𝕄) (slotAt (F := F) c k q f) := by
  unfold slotAt; infer_instance

theorem slotAt_congr (c : Dev nD) (k : Fin 4) (q) (f g : Vec F S4x1x1024 .f32) (h : ∀ i ∈ slotS k, f i = g i) :
    slotAt (F := F) c k q f = slotAt c k q g := by unfold slotAt; exact pointsTo_congr h

/-- The share of slot 0 that the copy over distance `d + 1` reads. -/
def lent : Fin 3 → PosShare TreeShare := ![fullShare.left, fullShare.right.left, fullShare.right.right]

theorem slot_lend (c : Dev nD) (f : Vec F S4x1x1024 .f32) :
    slotAt (F := F) c 0 fullShare f ⊢ iprop(slotAt c 0 (lent 0) f ∗ slotAt c 0 (lent 1) f ∗ slotAt c 0 (lent 2) f) := by
  unfold slotAt lent
  refine (pointsTo_share (PosShare.mem_left_op_right fullShare)).1.trans (sep_mono_right ?_)
  exact (pointsTo_share (PosShare.mem_left_op_right fullShare.right)).1

theorem slot_back (c : Dev nD) (f : Vec F S4x1x1024 .f32) :
    iprop(slotAt (F := F) c 0 (lent 0) f ∗ slotAt c 0 (lent 1) f ∗ slotAt c 0 (lent 2) f) ⊢ slotAt c 0 fullShare f := by
  unfold slotAt
  show iprop((((c : Thread nD τ).loc cc0_scratch2) ↦[slotS 0]{fullShare.left} f)
    ∗ (((c : Thread nD τ).loc cc0_scratch2) ↦[slotS 0]{fullShare.right.left} f)
    ∗ (((c : Thread nD τ).loc cc0_scratch2) ↦[slotS 0]{fullShare.right.right} f)) ⊢ _
  iintro ⟨H0, H1, H2⟩
  iapply (pointsTo_share (PosShare.mem_left_op_right fullShare)).2
  isplitl [H0]; · iexact H0
  iapply (pointsTo_share (PosShare.mem_left_op_right fullShare.right)).2
  isplitl [H1] <;> iassumption

variable (x : Dev nD → Vec F S2048x1024 .f32)

/-- What the cells hand out. -/
def hand (c : Dev nD) (d : Fin 3) : Role → sProp 𝕄
  | .bar => iprop(∃ f, slotAt (up d c) d.succ fullShare f)
  | .snd e => slotAt c 0 (lent e) (comm x c)
  | .rcv e => slotAt c e.succ fullShare (comm x c)
  | .stage => iprop(emp)

/-- The units a duty of a cell pays. -/
def units : Role → ℕ
  | .bar => 1
  | _ => N

theorem units_pos (r : Role) : 0 < units r := by
  unfold units; split
  · exact Nat.one_pos
  · exact N_pos

/-- The duties of a cell's round. -/
def due : Role → Finset (Fin 3)
  | .bar => Finset.univ
  | .stage => ∅
  | _ => {0}

/-- One round of every cell of a device's own thread. -/
def rd : Rounds.Schedule (GSem nD τ sig) (Fin 3) 𝕄 where
  duties g r := if r = 0 ∧ g.1.2 = .tc then due (role g.2) else ∅
  unitless _ := False
  amount g _ _ := units (role g.2)
  payload g _ d := hand x g.1.1 d (role g.2)
  amount_pos g _ _ _ := units_pos (role g.2)

instance rd_storable (g : GSem nD τ sig) (r : ℕ) (d : Fin 3) :
    BI.Storable (upEmb : UEmb _ 𝕄) ((rd (F := F) x).payload g r d) := by
  show BI.Storable upEmb (hand x g.1.1 d (role g.2))
  unfold hand; split <;> infer_instance

section Schedule
variable (c : Dev nD) (d e : Fin 3)

theorem duties_bar : (rd (F := F) x).duties (barCell c) 0 = Finset.univ := by
  dsimp only [rd]; rw [if_pos ⟨rfl, rfl⟩, role_bar]; rfl
theorem duties_snd : (rd (F := F) x).duties (sndCell c d) 0 = {0} := by
  dsimp only [rd]; rw [if_pos ⟨rfl, rfl⟩, role_snd]; rfl
theorem duties_rcv : (rd (F := F) x).duties (rcvCell c d) 0 = {0} := by
  dsimp only [rd]; rw [if_pos ⟨rfl, rfl⟩, role_rcv]; rfl
theorem duties_after (g : GSem nD τ sig) : ∀ r, 1 ≤ r → (rd (F := F) x).duties g r = ∅ := fun r hr => by
  dsimp only [rd]; exact if_neg fun h => by omega

theorem amount_bar : (rd (F := F) x).amount (barCell c) 0 e = 1 := by dsimp only [rd]; rw [role_bar]; rfl
theorem amount_snd : (rd (F := F) x).amount (sndCell c d) 0 e = N := by dsimp only [rd]; rw [role_snd]; rfl
theorem amount_rcv : (rd (F := F) x).amount (rcvCell c d) 0 e = N := by dsimp only [rd]; rw [role_rcv]; rfl

theorem expect_bar : (rd (F := F) x).expect (barCell c) 0 = 3 := by
  unfold Schedule.expect Schedule.amountOf
  rw [duties_bar, Finset.sum_congr rfl fun d _ => amount_bar x c d]; rfl
theorem expect_snd : (rd (F := F) x).expect (sndCell c d) 0 = N := by
  unfold Schedule.expect Schedule.amountOf; rw [duties_snd, Finset.sum_singleton, amount_snd]
theorem expect_rcv : (rd (F := F) x).expect (rcvCell c d) 0 = N := by
  unfold Schedule.expect Schedule.amountOf; rw [duties_rcv, Finset.sum_singleton, amount_rcv]

theorem pay_bar : (rd (F := F) x).payload (barCell c) 0 e = iprop(∃ f, slotAt (up e c) e.succ fullShare f) := by
  dsimp only [rd]; rw [role_bar]; rfl
theorem pay_snd : (rd (F := F) x).payload (sndCell c d) 0 e = slotAt c 0 (lent d) (comm x c) := by
  dsimp only [rd]; rw [role_snd]; rfl
theorem pay_rcv : (rd (F := F) x).payload (rcvCell c d) 0 e = slotAt c d.succ fullShare (comm x c) := by
  dsimp only [rd]; rw [role_rcv]; rfl

theorem bigSep_three (Φ : Fin 3 → sProp 𝕄) : bigSep Finset.univ Φ = iprop(Φ 0 ∗ Φ 1 ∗ Φ 2) :=
  bigSep_univ_eq_bigSepL [0, 1, 2] (by decide) (by decide) Φ

/-- All a barrier wait hands over: the three slots the device is going to write. -/
theorem all_bar : bigSep ((rd (F := F) x).duties (barCell c) 0 \ ∅) (fun e => (rd (F := F) x).payload (barCell c) 0 e)
    = iprop((∃ f, slotAt (up 0 c) 1 fullShare f) ∗ (∃ f, slotAt (up 1 c) 2 fullShare f) ∗ ∃ f, slotAt (up 2 c) 3 fullShare f) := by
  rw [Finset.sdiff_empty, duties_bar, bigSep_three, pay_bar, pay_bar, pay_bar]; rfl
theorem all_snd : bigSep ((rd (F := F) x).duties (sndCell c d) 0 \ ∅) (fun e => (rd (F := F) x).payload (sndCell c d) 0 e)
    = slotAt c 0 (lent d) (comm x c) := by
  rw [Finset.sdiff_empty, duties_snd, bigSep_singleton, pay_snd]
theorem all_rcv : bigSep ((rd (F := F) x).duties (rcvCell c d) 0 \ ∅) (fun e => (rd (F := F) x).payload (rcvCell c d) 0 e)
    = slotAt c d.succ fullShare (comm x c) := by
  rw [Finset.sdiff_empty, duties_rcv, bigSep_singleton, pay_rcv]

end Schedule

/-! ## Who owes what, and the order of the waits -/

/-- The copies a device still owes: the credit at the receive cells of the three other devices; -/
def owedCopies (c : Dev nD) : CellTallies nD τ sig Unit :=
  tallyAt (rcvCell (up 2 c) 2) () N + tallyAt (rcvCell (up 1 c) 1) () N + tallyAt (rcvCell (up 0 c) 0) () N
/-- at launch it owes the three others a barrier unit each as well. -/
def owedAll (c : Dev nD) : CellTallies nD τ sig Unit :=
  owedCopies c + tallyAt (barCell (up 2 c)) () 1 + tallyAt (barCell (up 1 c)) () 1 + tallyAt (barCell (up 0 c)) () 1

def L (g : GSem nD τ sig) : Finset Unit := if g.1.2 = .tc then {()} else ∅
/-- Receive cells come after barrier cells, and those after all others. -/
def lv (g : GSem nD τ sig) (_ : Unit) : ℕ := match role g.2 with | .rcv _ => 2 | .bar => 1 | _ => 0

theorem L_of_ne (g : GSem nD τ sig) (h : g.1.2 ≠ .tc) : L g = ∅ := if_neg h

/-- A positive entry of a sum of two debts is one of the first or the cell of the second. -/
theorem pos_add {A : CellTallies nD τ sig Unit} {g g' : GSem nD τ sig} {u : Unit} {n : ℕ}
    (h : 0 < (A + tallyAt g' () n) g u) : 0 < A g u ∨ g = g' := by
  by_contra hn
  rw [not_or] at hn
  rw [Pi.add_apply, Finsupp.add_apply, tallyAt_apply, if_neg (fun h' => hn.2 h'.1)] at h
  exact hn.1 h

theorem pos_one {g g' : GSem nD τ sig} {u : Unit} {n : ℕ} (h : 0 < (tallyAt g' () n : CellTallies nD τ sig Unit) g u) : g = g' := by
  by_contra hn
  rw [tallyAt_apply, if_neg (fun h' => hn h'.1)] at h
  exact absurd h (Nat.lt_irrefl 0)

theorem copies_pos {c : Dev nD} {g : GSem nD τ sig} {u : Unit} (h : 0 < owedCopies c g u) : g.1.2 = .tc ∧ lv g u = 2 := by
  unfold owedCopies at h
  rcases pos_add h with h | rfl
  · rcases pos_add h with h | rfl
    · rw [pos_one h]; exact ⟨rfl, by unfold lv; rw [role_rcv]⟩
    · exact ⟨rfl, by unfold lv; rw [role_rcv]⟩
  · exact ⟨rfl, by unfold lv; rw [role_rcv]⟩

theorem all_pos {c : Dev nD} {g : GSem nD τ sig} {u : Unit} (h : 0 < owedAll c g u) : g.1.2 = .tc ∧ 0 < lv g u := by
  unfold owedAll at h
  rcases pos_add h with h | rfl
  · rcases pos_add h with h | rfl
    · rcases pos_add h with h | rfl
      · exact ⟨(copies_pos h).1, by rw [(copies_pos h).2]; decide⟩
      · exact ⟨rfl, Nat.one_pos⟩
    · exact ⟨rfl, Nat.one_pos⟩
  · exact ⟨rfl, Nat.one_pos⟩

/-- A device may wait on a cell that comes before every cell it owes. -/
theorem may_wait (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp]; exact Finset.mem_singleton_self _)
    (fun g u hg => by unfold L; rw [if_pos (h g u hg).1]; exact Finset.mem_singleton_self _)
    (fun p hp => by rw [Finset.mem_singleton.mp hp])
    (fun g u hg => (h g u hg).2)

theorem may_wait_ld (c : Dev nD) (b : Fin 2) : (levAts L lv : sProp 𝕄) ⊢ MayWait (c : Thread nD τ) (.dma (ldS b)) () (owedCopies c) :=
  may_wait c _ _ fun g u hg => ⟨(copies_pos hg).1, by rw [(copies_pos hg).2]; unfold lv; rw [role_ld]; decide⟩

theorem may_wait_bar (c : Dev nD) : (levAts L lv : sProp 𝕄) ⊢ MayWait (c : Thread nD τ) (.reg barS) () (owedCopies c) :=
  may_wait c _ _ fun g u hg => ⟨(copies_pos hg).1, by rw [(copies_pos hg).2]; unfold lv; rw [role_bar]; decide⟩

/-! ## What a device's body starts from -/

/-- Every cell's invariant, under the name `K` gives it, and that every cell has reached its round. -/
def records (K : Dev nD × Fin 7 → ℕ) : sProp 𝕄 :=
  iprop((bigSep Finset.univ fun p : Dev nD × Fin 7 => cellInv EX (rd x) (K p) (kcell p))
    ∗ bigSep Finset.univ fun p : Dev nD × Fin 7 => reached EX (kcell p) 0)

instance records_persistent (K : Dev nD × Fin 7 → ℕ) : BI.Persistent (records (F := F) x K) := by unfold records; infer_instance

theorem record_inv (K : Dev nD × Fin 7 → ℕ) (p : Dev nD × Fin 7) : records (F := F) x K ⊢ cellInv EX (rd x) (K p) (kcell p) := by
  unfold records; iintro ⟨#H, -⟩
  iapply (show (bigSep Finset.univ fun p : Dev nD × Fin 7 => (cellInv EX (rd x) (K p) (kcell p) : sProp 𝕄))
      ⊢ cellInv EX (rd x) (K p) (kcell p) from bigSep_elim (Finset.mem_univ p))
  iexact H
theorem record_reached (K : Dev nD × Fin 7 → ℕ) (p : Dev nD × Fin 7) : records (F := F) x K ⊢ reached EX (kcell p) 0 := by
  unfold records; iintro ⟨-, #H⟩
  iapply (show (bigSep Finset.univ fun p : Dev nD × Fin 7 => (reached EX (kcell p) 0 : sProp 𝕄)) ⊢ reached EX (kcell p) 0 from
    bigSep_elim (Finset.mem_univ p))
  iexact H

theorem inv_bar (K : Dev nD × Fin 7 → ℕ) (c : Dev nD) : records (F := F) x K ⊢ cellInv EX (rd x) (K (c, 0)) (barCell c) := record_inv x K (c, 0)
theorem inv_snd (K : Dev nD × Fin 7 → ℕ) (c : Dev nD) (d : Fin 3) : records (F := F) x K ⊢ cellInv EX (rd x) (K (c, sndNo d)) (sndCell c d) := by
  rw [← kcell_snd]; exact record_inv x K (c, sndNo d)
theorem inv_rcv (K : Dev nD × Fin 7 → ℕ) (c : Dev nD) (d : Fin 3) : records (F := F) x K ⊢ cellInv EX (rd x) (K (c, rcvNo d)) (rcvCell c d) := by
  rw [← kcell_rcv]; exact record_inv x K (c, rcvNo d)
theorem reached_bar (K : Dev nD × Fin 7 → ℕ) (c : Dev nD) : records (F := F) x K ⊢ reached EX (barCell c) 0 := record_reached x K (c, 0)
theorem reached_snd (K : Dev nD × Fin 7 → ℕ) (c : Dev nD) (d : Fin 3) : records (F := F) x K ⊢ reached EX (sndCell c d) 0 := by
  rw [← kcell_snd]; exact record_reached x K (c, sndNo d)
theorem reached_rcv (K : Dev nD × Fin 7 → ℕ) (c : Dev nD) (d : Fin 3) : records (F := F) x K ⊢ reached EX (rcvCell c d) 0 := by
  rw [← kcell_rcv]; exact record_reached x K (c, rcvNo d)

/-- The tokens of the three things device `c` does over distance `d + 1`: its barrier unit there, its copy's arrival
    there, its copy's completion here; -/
def payToks (c : Dev nD) (d : Fin 3) : sProp 𝕄 :=
  iprop(dutyTok EX (barCell (up d c)) 0 d.rev ∗ dutyTok EX (rcvCell (up d c) d) 0 0 ∗ dutyTok EX (sndCell c d) 0 0)
/-- its place at its two cells of that distance. -/
def places (c : Dev nD) (d : Fin 3) : sProp 𝕄 := iprop(atPos EX (sndCell c d) 0 ∅ 0 ∗ atPos EX (rcvCell c d) 0 ∅ 0)

/-- The ghost state device `c` starts from. -/
def ghost (K : Dev nD × Fin 7 → ℕ) (c : Dev nD) : sProp 𝕄 :=
  iprop(records x K ∗ atPos EX (barCell c) 0 ∅ 0 ∗ (bigSep Finset.univ fun d => places c d) ∗ bigSep Finset.univ fun d => payToks c d)

end Cert.KernelIdealRun

end
-- ==== Proof.KernelIdealSteps.lean ====
/-
# The kernel's operations, one rule each

The rules are stated for every block, staging slot and distance, so the body applies each of them as often as the
program repeats the operation.
-/
module

public import proofs.«01_k».proof.Proof.KernelIdealProtocol

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (x : Dev nD → Vec F S2048x1024 .f32) (c : Dev nD)

/-- What the rest of a program needs, on device `c`. -/
abbrev runs {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A block on its way into a staging slot -/

/-- The share of the argument each staging slot's copies read. -/
def readSh : Fin 2 → PosShare TreeShare := ![fullShare.left, fullShare.right]

abbrev xLoc : Loc nD τ sig := (c : Thread nD τ).loc main_arg0
abbrev bufLoc : Loc nD τ sig := (c : Thread nD τ).loc cc0_scratch0

/-- The contents of staging slot `b` after block `j` was copied over `f`. -/
abbrev filled (b : Fin 2) (j : Fin 8) (f : Vec F S2x256x1024 .f32) : Vec F S2x256x1024 .f32 :=
  (halfM b).view.write (Elt F) f ((blkM j).view.read (Elt F) (x c)) Finset.univ

/-- Staging slot `b` with nothing under way; -/
def idle (b : Fin 2) : sProp 𝕄 :=
  iprop((xLoc c ↦{readSh b} x c) ∗ (∃ f, bufLoc c ↦[halfS b]{fullShare} f) ∗ semVal (ldCell c b) 0)
/-- with block `j` on its way; -/
def moving (b : Fin 2) (j : Fin 8) : sProp 𝕄 :=
  iprop((∃ f, Transfers.Flight (countersEmb : UEmb Counters 𝕄) (c : Thread nD τ) (.dma (ldS b)) () NB
      iprop((bufLoc c ↦[halfS b]{fullShare} filled x c b j f) ∗ (xLoc c ↦[(blkM j).view.set]{readSh b} x c)))
    ∗ (xLoc c ↦[Finset.univ \ (blkM j).view.set]{readSh b} x c))
/-- with block `j` arrived. -/
def landed (b : Fin 2) (j : Fin 8) : sProp 𝕄 :=
  iprop((xLoc c ↦{readSh b} x c) ∗ (∃ f, bufLoc c ↦[halfS b]{fullShare} filled x c b j f) ∗ semVal (ldCell c b) 0)

theorem half_amount (b : Fin 2) (q : DmaSem sig) : (halfM b).view.amount (.dma q) = NB := rfl
theorem slot_amount (k : Fin 4) (q : DmaSem sig) : (slotM k).view.amount (.dma q) = N := rfl

/-- The argument's rows are a block's and the others; -/
theorem rows_split (b : Fin 2) (j : Fin 8) : (xLoc c ↦{readSh b} x c : sProp 𝕄)
    ⊢ iprop((xLoc c ↦[(blkM j).view.set]{readSh b} x c) ∗ (xLoc c ↦[Finset.univ \ (blkM j).view.set]{readSh b} x c)) :=
  (pointsTo_split_subset (Finset.subset_univ _)).1
theorem rows_join (b : Fin 2) (j : Fin 8) :
    iprop((xLoc c ↦[(blkM j).view.set]{readSh b} x c) ∗ (xLoc c ↦[Finset.univ \ (blkM j).view.set]{readSh b} x c))
      ⊢ (xLoc c ↦{readSh b} x c : sProp 𝕄) :=
  (pointsTo_split_subset (Finset.subset_univ _)).2

theorem start_copy (b : Fin 2) (j : Fin 8) {hsrc : (blkM j).view.WordExact} {hdst : (halfM b).view.WordExact}
    {hsem}
    {α : Type} {Q : α → sProp 𝕄} {k : PUnit → Prog (TpuEff nD τ sig (Elt F) Λ₀ .tc) α} :
    idle x c b ⊢ iprop((moving x c b j -∗ runs c (k ⟨⟩) Q)
      -∗ runs c (.op (.enqueueDma (blkM j) (.here (halfM b)) (.dma (ldS b)) hsrc hdst hsem) k) Q) := by
  unfold idle moving
  iintro ⟨Hx, ⟨%f, Hb⟩, Hv⟩ Hk
  ihave Hx := (rows_split x c b j) $$ Hx
  icases Hx with ⟨Hblk, Hrest⟩
  iapply (Transfers.wp_dmaLocal (countersEmb : UEmb Counters 𝕄) 𝒱₀ (c : Thread nD τ) none (src := blkM j) (dst := halfM b)
    (Sd := halfS b) () NB (half_amount b (ldS b)) NB_pos (Finset.Subset.refl _)) $$ [Hblk Hb Hv]
  · isplitl [Hblk]; · iexact Hblk
    isplitl [Hb] <;> iassumption
  iintro Hf
  iapply Hk
  isplitl [Hf]
  · iexists f; iexact Hf
  · iexact Hrest

theorem end_copy (b : Fin 2) (j : Fin 8) {hsrc : (blkM j).view.WordExact} {hdst : (halfM b).view.WordExact}
    {W : Waits sig Unit} {α : Type} {Q : α → sProp 𝕄} {k : PUnit → Prog (TpuEff nD τ sig (Elt F) Λ₀ .tc) α} :
    iprop(moving x c b j ∗ owes (c : Thread nD τ) (owedCopies c) W ∗ levAts L lv)
      ⊢ iprop((iprop(landed x c b j ∗ owes (c : Thread nD τ) (owedCopies c) (insert (SemLoc.dma (ldS b), ()) W)) -∗ runs c (k ⟨⟩) Q)
      -∗ runs c (.op (.waitDma2 (ldS b) (blkM j) (halfM b) hsrc hdst) k) Q) := by
  unfold moving landed
  iintro ⟨⟨⟨%f, Hf⟩, Hrest⟩, HO, Hlev⟩ Hk
  iapply (Transfers.wp_waitLocalO (countersEmb : UEmb Counters 𝕄) 𝒱₀ (c : Thread nD τ) none () (credit_half b)) $$ [Hf HO Hlev]
  · isplitl [Hf]; · iexact Hf
    isplitl [HO]; · iexact HO
    iapply (may_wait_ld c b); iexact Hlev
  iintro ⟨⟨Hb, Hblk⟩, Hv, HO⟩
  iapply Hk
  isplitr [HO]
  · isplitl [Hblk Hrest]
    · iapply (rows_join x c b j)
      isplitl [Hblk] <;> iassumption
    isplitl [Hb]
    · iexists f; iexact Hb
    · iexact Hv
  · iexact HO

theorem load_block (b : Fin 2) (j : Fin 8) {hl : View.LoadsAt bufM.view (halfR b).toLoadRect}
    {α : Type} {Q : α → sProp 𝕄} {k : Vec F S1x256x1024 .f32 → Prog (TpuEff nD τ sig (Elt F) Λ₀ .tc) α} :
    landed x c b j ⊢ iprop((idle x c b -∗ runs c (k (blk x c j)) Q)
      -∗ runs c (.op (.load bufM (halfR b).toLoadRect hl) k) Q) := by
  unfold landed idle
  iintro ⟨Hx, ⟨%f, Hb⟩, Hv⟩ Hk
  iapply (wp_load 𝒱₀ (c : Thread nD τ) none Set.univ (m := bufM) (half_access b)) $$ Hb
  iintro Hb
  rw [landed_load]
  iapply Hk
  isplitl [Hx]; · iexact Hx
  isplitl [Hb]
  · iexists _; iexact Hb
  · iexact Hv

/-! ## The handshake -/

variable (K : Dev nD × Fin 7 → ℕ)

/-- The signal to the device `d + 1` places on: it is handed this device's slot that device will write. -/
theorem signal_step (d : Fin 3) (n : Dev nD) (hn : n = up d c) (O : CellTallies nD τ sig Unit) {W : Waits sig Unit}
    (f : Vec F S4x1x1024 .f32) {α : Type} {Q : α → sProp 𝕄} {k : PUnit → Prog (TpuEff nD τ sig (Elt F) Λ₀ .tc) α} :
    iprop(records x K ∗ owes (c : Thread nD τ) (O + tallyAt (barCell (up d c)) () 1) W
        ∗ dutyTok EX (barCell (up d c)) 0 d.rev ∗ slotAt c d.rev.succ fullShare f)
      ⊢ iprop((owes (c : Thread nD τ) O W -∗ runs c (k ⟨⟩) Q) -∗ runs c (.op (.semSignal (n : Thread nD τ) barS 1) k) Q) := by
  subst hn
  iintro ⟨#HR, HO, Ht, Hs⟩ Hk
  iapply (Rounds.wp_signal 𝒱₀ EX (rd x) (c : Thread nD τ) none (dst := ((up d c : Dev nD) : Thread nD τ)) (κ := K (up d c, 0))
    (d := d.rev) (by rw [duties_bar]; exact Finset.mem_univ _) (amount_bar x (up d c) d.rev) () O rfl) $$ [HO Ht Hs]
  · isplitr; · iapply (inv_bar x K (up d c)); iexact HR
    isplitl [HO]; · iexact HO
    isplitl [Ht]; · iexact Ht
    isplitl [Hs]
    · rw [pay_bar, up_rev_up]; iexists f; iexact Hs
    · iapply (reached_bar x K (up d c)); iexact HR
  iexact Hk

/-- The wait for the three others' units: it hands over the three slots this device is going to write. -/
theorem barrier_step {W : Waits sig Unit} {α : Type} {Q : α → sProp 𝕄} {k : PUnit → Prog (TpuEff nD τ sig (Elt F) Λ₀ .tc) α} :
    iprop(records x K ∗ cred (tallyAt (barCell c) () 3) ∗ owes (c : Thread nD τ) (owedCopies c) W ∗ levAts L lv ∗ atPos EX (barCell c) 0 ∅ 0)
      ⊢ iprop((iprop(owes (c : Thread nD τ) (owedCopies c) (insert (SemLoc.reg barS, ()) W) ∗ atPos EX (barCell c) 1 ∅ 0
          ∗ (∃ f, slotAt (up 0 c) 1 fullShare f) ∗ (∃ f, slotAt (up 1 c) 2 fullShare f) ∗ ∃ f, slotAt (up 2 c) 3 fullShare f)
          -∗ runs c (k ⟨⟩) Q)
        -∗ runs c (.op (.semWait barS 3) k) Q) := by
  iintro ⟨#HR, Hc, HO, Hlev, Hat⟩ Hk
  iapply (Rounds.wp_wait_rest_token 𝒱₀ EX (rd x) (c : Thread nD τ) none (κ := K (c, 0))
    (wpE_semWait_eq 𝒱₀ (c : Thread nD τ) none Set.univ) (Set.mem_univ _) () (O := owedCopies c) (W := W) (R := 0) (m := 0) (T := ∅)
    (by rw [expect_bar])) $$ [Hc HO Hlev Hat]
  · isplitr; · iapply (inv_bar x K c); iexact HR
    isplitl [Hc]; · iexact Hc
    isplitl [HO]; · iexact HO
    isplitl [Hlev]; · iapply (may_wait_bar c); iexact Hlev
    iexact Hat
  iintro ⟨HO, Hat, -, Hp⟩
  iapply Hk
  isplitl [HO]; · iexact HO
  isplitl [Hat]; · iexact Hat
  iapply (Entails.of_eq (all_bar x c)); iexact Hp

/-! ## The copies to the other devices -/

/-- The copy of slot 0 into slot `d + 1` of the device `d + 1` places on. -/
theorem send_step (d : Fin 3) (n : Dev nD) (hn : n = up d c) (O : CellTallies nD τ sig Unit) {W : Waits sig Unit}
    (f : Vec F S4x1x1024 .f32) {hsc : (slotM d.succ : Memref sig (Dev.tc n : Thread nD τ).2.kind .vmem S1x1024 .f32).view.ref.isScScratch = false}
    {hsrc : (slotM 0).view.WordExact} {hdst : (slotM d.succ).view.WordExact}
    {hsem : DmaTarget.Typed .vmem (.dma (rcvS d)) (.remote (Dev.tc n : Thread nD τ) (slotM d.succ) (.dma (sndS d)) hsc)}
    {α : Type} {Q : α → sProp 𝕄} {k : PUnit → Prog (TpuEff nD τ sig (Elt F) Λ₀ .tc) α} :
    iprop(records x K ∗ owes (c : Thread nD τ) (O + tallyAt (rcvCell (up d c) d) () N) W
        ∗ dutyTok EX (rcvCell (up d c) d) 0 0 ∗ dutyTok EX (sndCell c d) 0 0
        ∗ slotAt c 0 (lent d) (comm x c) ∗ slotAt (up d c) d.succ fullShare f)
      ⊢ iprop((iprop(cred (tallyAt (sndCell c d) () N) ∗ owes (c : Thread nD τ) O W) -∗ runs c (k ⟨⟩) Q)
        -∗ runs c (.op (.enqueueDma (slotM 0) (.remote (Dev.tc n : Thread nD τ) (slotM d.succ) (.dma (sndS d)) hsc) (.dma (rcvS d)) hsrc hdst hsem) k) Q) := by
  subst hn
  iintro ⟨#HR, HO, Htr, Hts, Hs, Hd⟩ Hk
  iapply (Rounds.wp_send_pointsTo 𝒱₀ EX (rd x) (c : Thread nD τ) none (κ₁ := K (c, sndNo d)) (κ₂ := K (up d c, rcvNo d))
    (r₁ := 0) (r₂ := 0) (d₁ := 0) (d₂ := 0) (q := lent d) (fs := comm x c) (fd := f)
    (by rw [duties_snd]; exact Finset.mem_singleton_self _) (by rw [duties_rcv]; exact Finset.mem_singleton_self _)
    () () N (slot_amount d.succ (rcvS d)) (amount_snd x c d 0) (amount_rcv x (up d c) d 0) O rfl (W := W)
    (by rw [pay_snd]; exact BI.Entails.refl _)
    (by rw [pay_rcv]; exact Entails.of_eq (pointsTo_congr (copy_agrees x c d f)))) $$ [HO Htr Hts Hs Hd]
  · isplitr; · iapply (inv_snd x K c d); iexact HR
    isplitr; · iapply (inv_rcv x K (up d c) d); iexact HR
    isplitl [Hs]; · unfold slotAt; iexact Hs
    isplitl [Hd]; · unfold slotAt; iexact Hd
    isplitl [HO]; · iexact HO
    isplitl [Hts]; · iexact Hts
    isplitr; · iapply (reached_snd x K c d); iexact HR
    isplitl [Htr]; · iexact Htr
    iapply (reached_rcv x K (up d c) d); iexact HR
  iexact Hk

/-- The wait for this device's own copy: the share of slot 0 it read is back, and the cell is done with. -/
theorem sent_step (d : Fin 3) {a b : Memref sig .tc .vmem S1x1024 .f32} (hb : b.view.dmaCredit = N)
    {hsrc : a.view.WordExact} {hdst : b.view.WordExact}
    {W : Waits sig Unit} {α : Type} {Q : α → sProp 𝕄} {k : PUnit → Prog (TpuEff nD τ sig (Elt F) Λ₀ .tc) α} :
    iprop(records x K ∗ cred (tallyAt (sndCell c d) () N) ∗ owes (c : Thread nD τ) 0 W ∗ atPos EX (sndCell c d) 0 ∅ 0)
      ⊢ iprop((iprop(owes (c : Thread nD τ) 0 (insert (SemLoc.dma (sndS d), ()) W) ∗ semVal (sndCell c d) 0
          ∗ slotAt c 0 (lent d) (comm x c)) -∗ runs c (k ⟨⟩) Q)
        -∗ runs c (.op (.waitDma2 (sndS d) a b hsrc hdst) k) Q) := by
  iintro ⟨#HR, Hc, HO, Hat⟩ Hk
  iapply (Rounds.wp_wait_rest_token 𝒱₀ EX (rd x) (c : Thread nD τ) none (κ := K (c, sndNo d)) (k' := N)
    (fun R => (wpE_waitDma2_eq 𝒱₀ (c : Thread nD τ) none Set.univ R).trans (by rw [hb])) (Set.mem_univ _) () (O := 0) (W := W) (R := 0) (m := 0) (T := ∅)
    (by rw [expect_snd, Nat.zero_add])) $$ [Hc HO Hat]
  · isplitr; · iapply (inv_snd x K c d); iexact HR
    isplitl [Hc]; · iexact Hc
    isplitl [HO]; · iexact HO
    isplitr; · rw [MayWait_zero]; iempintro
    iexact Hat
  iintro ⟨HO, Hat, -, Hp⟩
  imod (Rounds.cell_close EX (rd x) (Set.mem_univ (K (c, sndNo d))) (fun h => h) (R := 0 + 1) (duties_after x (sndCell c d))) $$ [Hat] with Hz
  · isplitr; · iapply (inv_snd x K c d); iexact HR
    iexact Hat
  iapply Hk
  isplitl [HO]; · iexact HO
  isplitl [Hz]; · iexact Hz
  iapply (Entails.of_eq (all_snd x c d)); iexact Hp

/-- The wait for a copy to arrive: slot `d + 1` holds the column sums it brought, and the cell is done with. -/
theorem arrived_step (d : Fin 3) {a b : Memref sig .tc .vmem S1x1024 .f32} (hb : b.view.dmaCredit = N)
    {hsrc : a.view.WordExact} {hdst : b.view.WordExact}
    {W : Waits sig Unit} {α : Type} {Q : α → sProp 𝕄} {k : PUnit → Prog (TpuEff nD τ sig (Elt F) Λ₀ .tc) α} :
    iprop(records x K ∗ cred (tallyAt (rcvCell c d) () N) ∗ owes (c : Thread nD τ) 0 W ∗ atPos EX (rcvCell c d) 0 ∅ 0)
      ⊢ iprop((iprop(owes (c : Thread nD τ) 0 (insert (SemLoc.dma (rcvS d), ()) W) ∗ semVal (rcvCell c d) 0
          ∗ slotAt c d.succ fullShare (comm x c)) -∗ runs c (k ⟨⟩) Q)
        -∗ runs c (.op (.waitDma2 (rcvS d) a b hsrc hdst) k) Q) := by
  iintro ⟨#HR, Hc, HO, Hat⟩ Hk
  iapply (Rounds.wp_wait_rest_token 𝒱₀ EX (rd x) (c : Thread nD τ) none (κ := K (c, rcvNo d)) (k' := N)
    (fun R => (wpE_waitDma2_eq 𝒱₀ (c : Thread nD τ) none Set.univ R).trans (by rw [hb])) (Set.mem_univ _) () (O := 0) (W := W) (R := 0) (m := 0) (T := ∅)
    (by rw [expect_rcv, Nat.zero_add])) $$ [Hc HO Hat]
  · isplitr; · iapply (inv_rcv x K c d); iexact HR
    isplitl [Hc]; · iexact Hc
    isplitl [HO]; · iexact HO
    isplitr; · rw [MayWait_zero]; iempintro
    iexact Hat
  iintro ⟨HO, Hat, -, Hp⟩
  imod (Rounds.cell_close EX (rd x) (Set.mem_univ (K (c, rcvNo d))) (fun h => h) (R := 0 + 1) (duties_after x (rcvCell c d))) $$ [Hat] with Hz
  · isplitr; · iapply (inv_rcv x K c d); iexact HR
    iexact Hat
  iapply Hk
  isplitl [HO]; · iexact HO
  isplitl [Hz]; · iexact Hz
  iapply (Entails.of_eq (all_rcv x c d)); iexact Hp

/-! ## Slot 0 and the finished exchange buffer -/

/-- The load of slot 0 the program makes before its store, and does not use. -/
theorem peek_slot (f : Vec F S4x1x1024 .f32) {hl : View.LoadsAt commM.view (slotR 0).toLoadRect}
    {α : Type} {Q : α → sProp 𝕄} {k : Vec F S1x1x1024 .f32 → Prog (TpuEff nD τ sig (Elt F) Λ₀ .tc) α} :
    slotAt c 0 fullShare f ⊢ iprop((slotAt c 0 fullShare f -∗ runs c (k (commM.view.readAt (Elt F) (slotR 0).toLoadRect f)) Q)
      -∗ runs c (.op (.load commM (slotR 0).toLoadRect hl) k) Q) := by
  unfold slotAt
  iintro H Hk
  iapply (wp_load 𝒱₀ (c : Thread nD τ) none Set.univ (m := commM) (slot_access 0)) $$ H
  iexact Hk

/-- The store of the device's column sums. -/
theorem store_slot (f : Vec F S4x1x1024 .f32) {hs : View.Stores (commM.access (slotR 0)) Finset.univ} {hm}
    {α : Type} {Q : α → sProp 𝕄} {k : PUnit → Prog (TpuEff nD τ sig (Elt F) Λ₀ .tc) α} :
    slotAt c 0 fullShare f ⊢ iprop((slotAt c 0 fullShare (comm x c) -∗ runs c (k ⟨⟩) Q)
      -∗ runs c (.op (.store commM (slotR 0) (acc x c) Finset.univ hs hm) k) Q) := by
  iintro H Hk
  unfold slotAt
  iapply (wp_store 𝒱₀ (c : Thread nD τ) none Set.univ (m := commM) (r := slotR 0) (Mk := Finset.univ) (slot_store 0)) $$ H
  iintro H
  iapply Hk
  iapply (Entails.of_eq (pointsTo_congr (store_agrees x c f))); iexact H

/-- A load of one slot of the finished exchange buffer. -/
theorem load_slot (k' : Fin 4) {hl : View.LoadsAt commM.view (slotR k').toLoadRect}
    {α : Type} {Q : α → sProp 𝕄} {k : Vec F S1x1x1024 .f32 → Prog (TpuEff nD τ sig (Elt F) Λ₀ .tc) α} :
    slotAt c k' fullShare (comm x c) ⊢ iprop((slotAt c k' fullShare (comm x c) -∗ runs c (k (acc x (before k' c))) Q)
      -∗ runs c (.op (.load commM (slotR k').toLoadRect hl) k) Q) := by
  unfold slotAt
  iintro H Hk
  iapply (wp_load 𝒱₀ (c : Thread nD τ) none Set.univ (m := commM) (slot_access k')) $$ H
  rw [comm_load]
  iexact Hk

end Cert.KernelIdealRun

end
-- ==== Proof.KernelIdealBody.lean ====
/-
# The body of the kernel on one device

From the argument's rows, the two scratch buffers and the device's part of the exchange's state, the body ends with
the mean of the four devices' column sums in the result's staging buffer, the argument as it was and every
semaphore back at zero.
-/
module

public import proofs.«01_k».proof.Proof.KernelIdealSteps

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The two scratch buffers, whole and in slots -/

abbrev commLoc (c : Dev nD) : Loc nD τ sig := (c : Thread nD τ).loc cc0_scratch2

theorem comm_slots (c : Dev nD) (f : Vec F S4x1x1024 .f32) :
    (commLoc c ↦{fullShare} f : sProp 𝕄)
      = iprop(slotAt c 0 fullShare f ∗ slotAt c 1 fullShare f ∗ slotAt c 2 fullShare f ∗ slotAt c 3 fullShare f) := by
  unfold slotAt
  rw [Ring.pointsTo_blocks (ℓ := commLoc c) slotS (fun b b' h => slot_disjoint b b' h.symm) slot_cover f]
  exact bigSep_univ_eq_bigSepL [0, 1, 2, 3] (by decide) (by decide) _

theorem buf_halves (c : Dev nD) (f : Vec F S2x256x1024 .f32) :
    (bufLoc c ↦{fullShare} f : sProp 𝕄)
      ⊢ iprop((∃ g, bufLoc c ↦[halfS 0]{fullShare} g) ∗ (∃ g, bufLoc c ↦[halfS 1]{fullShare} g)) := by
  rw [Ring.pointsTo_blocks (ℓ := bufLoc c) halfS (fun b b' h => half_disjoint b b' h.symm) half_cover f,
    bigSep_univ_eq_bigSepL [0, 1] (by decide) (by decide)]
  show iprop((bufLoc c ↦[halfS 0]{fullShare} f) ∗ (bufLoc c ↦[halfS 1]{fullShare} f)) ⊢ _
  iintro ⟨H0, H1⟩
  isplitl [H0] <;> (iexists f; iassumption)

theorem buf_whole (c : Dev nD) :
    iprop((∃ g, bufLoc c ↦[halfS 0]{fullShare} g) ∗ (∃ g, bufLoc c ↦[halfS 1]{fullShare} g))
      ⊢ (iprop(∃ f, bufLoc c ↦{fullShare} f) : sProp 𝕄) := by
  have h := fun g => (Entails.of_eq (bigSep_univ_eq_bigSepL [0, 1] (by decide) (by decide)
    (fun b : Fin 2 => (iprop(∃ f, bufLoc c ↦[halfS b]{fullShare} f) : sProp 𝕄))).symm).trans
      (Ring.pointsTo_blocks_join_exists (ℓ := bufLoc c) halfS (fun b b' h => half_disjoint b b' h.symm) half_cover (q := fullShare) g)
  iintro ⟨⟨%g, H0⟩, H1⟩
  iapply (show iprop((∃ f, bufLoc c ↦[halfS 0]{fullShare} f) ∗ (∃ f, bufLoc c ↦[halfS 1]{fullShare} f))
    ⊢ (iprop(∃ f, bufLoc c ↦{fullShare} f) : sProp 𝕄) from h g)
  isplitl [H0]
  · iexists g; iexact H0
  · iexact H1

/-- The argument's rows in the two shares the staging slots read, and back. -/
theorem rows_shares (c : Dev nD) (f : Vec F S2048x1024 .f32) :
    (xLoc c ↦{fullShare} f : sProp 𝕄) ⊢ iprop((xLoc c ↦{readSh 0} f) ∗ (xLoc c ↦{readSh 1} f)) :=
  (pointsTo_share (PosShare.mem_left_op_right fullShare)).1
theorem rows_whole (c : Dev nD) (f : Vec F S2048x1024 .f32) :
    iprop((xLoc c ↦{readSh 0} f) ∗ (xLoc c ↦{readSh 1} f)) ⊢ (xLoc c ↦{fullShare} f : sProp 𝕄) :=
  (pointsTo_share (PosShare.mem_left_op_right fullShare)).2

/-! ## What the pipeline is told of the body -/

variable (m : (ℓ : Loc nD τ sig) → Buf (Elt F) ℓ)

/-- Each device's rows of the argument, as the memory at launch has them. -/
def rows : Dev nD → Vec F S2048x1024 .f32 := fun c => m ((c : Thread nD τ).loc main_arg0)

/-- What device `c`'s body starts from, the scratch buffers apart. -/
def start (c : Dev nD) : sProp 𝕄 :=
  iprop((∃ K, ghost (rows m) K c) ∗ (semVal (ldCell c 0) 0 ∗ semVal (ldCell c 1) 0)
    ∗ cred (tallyAt (barCell c) () 3) ∗ (bigSep Finset.univ fun d : Fin 3 => cred (tallyAt (rcvCell c d) () N))
    ∗ levAts L lv ∗ (xLoc c ↦{fullShare} rows m c))

/-- The state before the body, -/
def Φ₀ (c : Dev nD) : sProp 𝕄 :=
  iprop(start m c ∗ (∃ f, bufLoc c ↦{fullShare} f) ∗ (∃ f, commLoc c ↦{fullShare} f))
/-- and after it. -/
def Φ₁ (c : Dev nD) : sProp 𝕄 :=
  iprop((xLoc c ↦{fullShare} rows m c) ∗ ((∃ f, bufLoc c ↦{fullShare} f) ∗ (∃ f, commLoc c ↦{fullShare} f))
    ∗ (semVal (ldCell c 0) 0 ∗ semVal (ldCell c 1) 0)
    ∗ (semVal (sndCell c 0) 0 ∗ semVal (sndCell c 1) 0 ∗ semVal (sndCell c 2) 0)
    ∗ (semVal (rcvCell c 0) 0 ∗ semVal (rcvCell c 1) 0 ∗ semVal (rcvCell c 2) 0)
    ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => out (rows m) c
  Φ t := match t with
    | ⟨0, _⟩ => Φ₀ m c
    | ⟨_ + 1, _⟩ => Φ₁ m c
  q _ := fullShare
  owed t := match t with
    | ⟨0, _⟩ => owedAll c
    | ⟨_ + 1, _⟩ => 0

/-- The one step of the grid. -/
def t₀ : Fin cfg0.N := ⟨0, by decide⟩
theorem only_step (t : Fin cfg0.N) : t = t₀ := by
  obtain ⟨t, ht⟩ := t
  have : cfg0.N = 1 := by decide
  exact Fin.ext (by simp only [t₀]; omega)

abbrev outLoc (c : Dev nD) : Loc nD τ sig := (c : Thread nD τ).loc cc0_stg0_0

/-- Owning a buffer whole through its memref is owning its contents. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- The store of the result replaces the whole staging buffer. -/
theorem store_out (c : Dev nD) (f w : Vec F S1x1024 .f32) {hs : View.Stores
      (outM.access (Rect.unit (s := S1x1024) ![0, 0] S1x1024.size inb_S1x1024_S1x1024_0_0)) Finset.univ} {hm}
    {α : Type} {Q : α → sProp 𝕄} {k : PUnit → Prog (TpuEff nD τ sig (Elt F) Λ₀ .tc) α} :
    (outLoc c ↦{fullShare} f : sProp 𝕄) ⊢ iprop(((outLoc c ↦{fullShare} w) -∗ runs c (k ⟨⟩) Q)
      -∗ runs c (.op (.store outM (Rect.unit (s := S1x1024) ![0, 0] S1x1024.size inb_S1x1024_S1x1024_0_0) w Finset.univ hs hm) k) Q) := by
  iintro H Hk
  iapply (wp_store 𝒱₀ (c : Thread nD τ) none Set.univ (m := outM)
    (r := Rect.unit (s := S1x1024) ![0, 0] S1x1024.size inb_S1x1024_S1x1024_0_0) (Mk := Finset.univ) (Finset.subset_univ _)) $$ H
  rw [show View.write (Elt F) (outM.access (Rect.unit (s := S1x1024) ![0, 0] S1x1024.size inb_S1x1024_S1x1024_0_0)) f w Finset.univ = w
    from Memref.write_access_unit_zero_univ (Elt F) cc0_stg0_0 (funext fun a => by fin_cases a <;> rfl) _ f w]
  iexact Hk

/-- What the body holds when it starts on device `c`, the cells' invariants under the names `K`. -/
def pre (K : Dev nD × Fin 7 → ℕ) (c : Dev nD) (W : Waits sig Unit) : sProp 𝕄 :=
  iprop(ghost (rows m) K c ∗ (semVal (ldCell c 0) 0 ∗ semVal (ldCell c 1) 0)
    ∗ cred (tallyAt (barCell c) () 3) ∗ (bigSep Finset.univ fun d : Fin 3 => cred (tallyAt (rcvCell c d) () N))
    ∗ levAts L lv ∗ (xLoc c ↦{fullShare} rows m c)
    ∗ (∃ f, bufLoc c ↦{fullShare} f) ∗ (∃ f, commLoc c ↦{fullShare} f)
    ∗ owes (c : Thread nD τ) (owedAll c) W ∗ (∃ f, outLoc c ↦{fullShare} f))

/-- What it holds when it ends. -/
def post (c : Dev nD) : sProp 𝕄 :=
  iprop(Φ₁ m c ∗ (∃ W, owes (c : Thread nD τ) 0 W) ∗ (outLoc c ↦{fullShare} out (rows m) c))

set_option maxHeartbeats 1000000 in
theorem body_runs (K : Dev nD × Fin 7 → ℕ) (c : Dev nD) (W : Waits sig Unit) (Q : PUnit → sProp 𝕄) :
    iprop(pre m K c W ∗ (post m c -∗ Q ⟨⟩))
      ⊢ runs c (cc0_body xM (Memref.isWhole_whole _) outM (Memref.isWhole_whole _) bufM (Memref.isWhole_whole _) cc0_scratch1
          commM (Memref.isWhole_whole _) cc0_scratch3 cc0_scratch4) Q := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel
    k0_part10_skel
  simp only [k0_part9_eq_skeleton]
  unfold k0_part9_skel
  simp only [semSignalWord, semWaitWord, Prog.lift, Prog.bind_op, Prog.bind_ret, Prog.pure_eq_ret, wp_deviceId]
  unfold pre ghost payToks places owedAll
  rw [bigSep_three, bigSep_three, bigSep_three]
  iintro ⟨⟨⟨#HR, HaB, ⟨⟨HaS0, HaR0⟩, ⟨HaS1, HaR1⟩, HaS2, HaR2⟩, ⟨HtB0, HtR0, HtS0⟩, ⟨HtB1, HtR1, HtS1⟩, HtB2, HtR2, HtS2⟩,
    ⟨Hv0, Hv1⟩, HcB, ⟨HcR0, HcR1, HcR2⟩, #Hlev, Hx, ⟨%fb, Hbuf⟩, ⟨%fc, Hcomm⟩, HO, ⟨%fo, Hout⟩⟩, Hk⟩
  ihave Hx := (rows_shares c (rows m c)) $$ Hx
  icases Hx with ⟨Hx0, Hx1⟩
  ihave Hbuf := (buf_halves c fb) $$ Hbuf
  icases Hbuf with ⟨Hb0, Hb1⟩
  ihave Hcomm := (Entails.of_eq (comm_slots c fc)) $$ Hcomm
  icases Hcomm with ⟨Hs0, Hs1, Hs2, Hs3⟩
  ihave Hi0 := (show iprop((xLoc c ↦{readSh 0} rows m c) ∗ (∃ f, bufLoc c ↦[halfS 0]{fullShare} f) ∗ semVal (ldCell c 0) 0)
    ⊢ (idle (rows m) c 0 : sProp 𝕄) from BI.Entails.refl _) $$ [Hx0 Hb0 Hv0]
  · isplitl [Hx0]; · iexact Hx0
    isplitl [Hb0] <;> iassumption
  ihave Hi1 := (show iprop((xLoc c ↦{readSh 1} rows m c) ∗ (∃ f, bufLoc c ↦[halfS 1]{fullShare} f) ∗ semVal (ldCell c 1) 0)
    ⊢ (idle (rows m) c 1 : sProp 𝕄) from BI.Entails.refl _) $$ [Hx1 Hb1 Hv1]
  · isplitl [Hx1]; · iexact Hx1
    isplitl [Hb1] <;> iassumption
  -- block 0 starts, and a signal to each other device hands it the slot it will fill
  iapply (start_copy (rows m) c 0 0) $$ Hi0
  iintro Hi0
  iapply (signal_step (rows m) c K 0 _ (dev1_eq c) _ _) $$ [HO HtB0 Hs3]
  · isplitr; · iexact HR
    isplitl [HO]; · iexact HO
    isplitl [HtB0]; · iexact HtB0
    iexact Hs3
  iintro HO
  iapply (signal_step (rows m) c K 1 _ (dev2_eq c) _ _) $$ [HO HtB1 Hs2]
  · isplitr; · iexact HR
    isplitl [HO]; · iexact HO
    isplitl [HtB1]; · iexact HtB1
    iexact Hs2
  iintro HO
  iapply (signal_step (rows m) c K 2 _ (dev3_eq c) _ _) $$ [HO HtB2 Hs1]
  · isplitr; · iexact HR
    isplitl [HO]; · iexact HO
    isplitl [HtB2]; · iexact HtB2
    iexact Hs1
  iintro HO
  -- the three others have done so too
  iapply (barrier_step (rows m) c K) $$ [HcB HO HaB]
  · isplitr; · iexact HR
    isplitl [HcB]; · iexact HcB
    isplitl [HO]; · iexact HO
    isplitr <;> iassumption
  iintro ⟨HO, HaB, ⟨%g1, Hs1⟩, ⟨%g2, Hs2⟩, %g3, Hs3⟩
  -- the blocks arrive two slots apart and are added up
  iapply (start_copy (rows m) c 1 1) $$ Hi1
  iintro Hi1
  iapply (end_copy (rows m) c 0 0) $$ [Hi0 HO]
  · isplitl [Hi0]; · iexact Hi0
    isplitl [HO] <;> iassumption
  iintro ⟨Hi0, HO⟩
  iapply (load_block (rows m) c 0 0) $$ Hi0
  iintro Hi0
  iapply (start_copy (rows m) c 0 2) $$ Hi0
  iintro Hi0
  iapply (end_copy (rows m) c 1 1) $$ [Hi1 HO]
  · isplitl [Hi1]; · iexact Hi1
    isplitl [HO] <;> iassumption
  iintro ⟨Hi1, HO⟩
  iapply (load_block (rows m) c 1 1) $$ Hi1
  iintro Hi1
  iapply (start_copy (rows m) c 1 3) $$ Hi1
  iintro Hi1
  iapply (end_copy (rows m) c 0 2) $$ [Hi0 HO]
  · isplitl [Hi0]; · iexact Hi0
    isplitl [HO] <;> iassumption
  iintro ⟨Hi0, HO⟩
  iapply (load_block (rows m) c 0 2) $$ Hi0
  iintro Hi0
  iapply (start_copy (rows m) c 0 4) $$ Hi0
  iintro Hi0
  iapply (end_copy (rows m) c 1 3) $$ [Hi1 HO]
  · isplitl [Hi1]; · iexact Hi1
    isplitl [HO] <;> iassumption
  iintro ⟨Hi1, HO⟩
  iapply (load_block (rows m) c 1 3) $$ Hi1
  iintro Hi1
  iapply (start_copy (rows m) c 1 5) $$ Hi1
  iintro Hi1
  iapply (end_copy (rows m) c 0 4) $$ [Hi0 HO]
  · isplitl [Hi0]; · iexact Hi0
    isplitl [HO] <;> iassumption
  iintro ⟨Hi0, HO⟩
  iapply (load_block (rows m) c 0 4) $$ Hi0
  iintro Hi0
  iapply (start_copy (rows m) c 0 6) $$ Hi0
  iintro Hi0
  iapply (end_copy (rows m) c 1 5) $$ [Hi1 HO]
  · isplitl [Hi1]; · iexact Hi1
    isplitl [HO] <;> iassumption
  iintro ⟨Hi1, HO⟩
  iapply (load_block (rows m) c 1 5) $$ Hi1
  iintro Hi1
  iapply (start_copy (rows m) c 1 7) $$ Hi1
  iintro Hi1
  iapply (end_copy (rows m) c 0 6) $$ [Hi0 HO]
  · isplitl [Hi0]; · iexact Hi0
    isplitl [HO] <;> iassumption
  iintro ⟨Hi0, HO⟩
  iapply (load_block (rows m) c 0 6) $$ Hi0
  iintro Hi0
  iapply (end_copy (rows m) c 1 7) $$ [Hi1 HO]
  · isplitl [Hi1]; · iexact Hi1
    isplitl [HO] <;> iassumption
  iintro ⟨Hi1, HO⟩
  iapply (load_block (rows m) c 1 7) $$ Hi1
  iintro Hi1
  -- the device's column sums go to its own slot and from there to the three others
  iapply (peek_slot c fc) $$ Hs0
  iintro Hs0
  iapply (store_slot (rows m) c fc) $$ Hs0
  iintro Hs0
  ihave Hs0 := (slot_lend c (comm (rows m) c)) $$ Hs0
  icases Hs0 with ⟨Hl0, Hl1, Hl2⟩
  unfold owedCopies
  iapply (send_step (rows m) c K 0 _ (dev4_eq c) (tallyAt (rcvCell (up 2 c) 2) () N + tallyAt (rcvCell (up 1 c) 1) () N) g1) $$ [HO HtR0 HtS0 Hl0 Hs1]
  · isplitr; · iexact HR
    isplitl [HO]; · iexact HO
    isplitl [HtR0]; · iexact HtR0
    isplitl [HtS0]; · iexact HtS0
    isplitl [Hl0]; · iexact Hl0
    iexact Hs1
  iintro ⟨HcS0, HO⟩
  iapply (send_step (rows m) c K 1 _ (dev5_eq c) (tallyAt (rcvCell (up 2 c) 2) () N) g2) $$ [HO HtR1 HtS1 Hl1 Hs2]
  · isplitr; · iexact HR
    isplitl [HO]; · iexact HO
    isplitl [HtR1]; · iexact HtR1
    isplitl [HtS1]; · iexact HtS1
    isplitl [Hl1]; · iexact Hl1
    iexact Hs2
  iintro ⟨HcS1, HO⟩
  iapply (send_step (rows m) c K 2 _ (dev6_eq c) (0) g3) $$ [HO HtR2 HtS2 Hl2 Hs3]
  · isplitr; · iexact HR
    isplitl [HO]; · rw [zero_add]; iexact HO
    isplitl [HtR2]; · iexact HtR2
    isplitl [HtS2]; · iexact HtS2
    isplitl [Hl2]; · iexact Hl2
    iexact Hs3
  iintro ⟨HcS2, HO⟩
  -- all six copies end
  iapply (sent_step (rows m) c K 0 (credit_slot 0)) $$ [HcS0 HO HaS0]
  · isplitr; · iexact HR
    isplitl [HcS0]; · iexact HcS0
    isplitl [HO] <;> iassumption
  iintro ⟨HO, HaS0, Hl0⟩
  iapply (arrived_step (rows m) c K 0 (credit_slot (Fin.succ 0))) $$ [HcR0 HO HaR0]
  · isplitr; · iexact HR
    isplitl [HcR0]; · iexact HcR0
    isplitl [HO] <;> iassumption
  iintro ⟨HO, HaR0, Hs1⟩
  ihave Hs1 := (show slotAt c (Fin.succ 0) fullShare (comm (rows m) c) ⊢ (slotAt c 1 fullShare (comm (rows m) c) : sProp 𝕄)
    from BI.Entails.refl _) $$ Hs1
  iapply (sent_step (rows m) c K 1 (credit_slot 0)) $$ [HcS1 HO HaS1]
  · isplitr; · iexact HR
    isplitl [HcS1]; · iexact HcS1
    isplitl [HO] <;> iassumption
  iintro ⟨HO, HaS1, Hl1⟩
  iapply (arrived_step (rows m) c K 1 (credit_slot (Fin.succ 1))) $$ [HcR1 HO HaR1]
  · isplitr; · iexact HR
    isplitl [HcR1]; · iexact HcR1
    isplitl [HO] <;> iassumption
  iintro ⟨HO, HaR1, Hs2⟩
  ihave Hs2 := (show slotAt c (Fin.succ 1) fullShare (comm (rows m) c) ⊢ (slotAt c 2 fullShare (comm (rows m) c) : sProp 𝕄)
    from BI.Entails.refl _) $$ Hs2
  iapply (sent_step (rows m) c K 2 (credit_slot 0)) $$ [HcS2 HO HaS2]
  · isplitr; · iexact HR
    isplitl [HcS2]; · iexact HcS2
    isplitl [HO] <;> iassumption
  iintro ⟨HO, HaS2, Hl2⟩
  iapply (arrived_step (rows m) c K 2 (credit_slot (Fin.succ 2))) $$ [HcR2 HO HaR2]
  · isplitr; · iexact HR
    isplitl [HcR2]; · iexact HcR2
    isplitl [HO] <;> iassumption
  iintro ⟨HO, HaR2, Hs3⟩
  ihave Hs3 := (show slotAt c (Fin.succ 2) fullShare (comm (rows m) c) ⊢ (slotAt c 3 fullShare (comm (rows m) c) : sProp 𝕄)
    from BI.Entails.refl _) $$ Hs3
  -- the four sums are read and their mean stored
  ihave Hs0 := (slot_back c (comm (rows m) c)) $$ [Hl0 Hl1 Hl2]
  · isplitl [Hl0]; · iexact Hl0
    isplitl [Hl1] <;> iassumption
  iapply (load_slot (rows m) c 0) $$ Hs0
  iintro Hs0
  iapply (load_slot (rows m) c 1) $$ Hs1
  iintro Hs1
  iapply (load_slot (rows m) c 2) $$ Hs2
  iintro Hs2
  iapply (load_slot (rows m) c 3) $$ Hs3
  iintro Hs3
  iapply (wp_load 𝒱₀ (c : Thread nD τ) none Set.univ (m := outM) (Finset.subset_univ _)) $$ Hout
  iintro Hout
  iapply (store_out c fo (out (rows m) c)) $$ Hout
  iintro Hout
  -- the barrier cell ends as the copies' cells have
  unfold runs; rw [wp_ret]
  imod (Rounds.cell_close EX (rd (rows m)) (Set.mem_univ (K (c, 0))) (fun h => h) (R := 1) (duties_after (rows m) (barCell c))) $$ [HaB] with HvB
  · isplitr; · iapply (inv_bar (rows m) K c); iexact HR
    iexact HaB
  imodintro
  iapply Hk
  unfold post Φ₁
  isplitr [Hout HO]
  · ihave Hi0 := (show (idle (rows m) c 0 : sProp 𝕄)
      ⊢ iprop((xLoc c ↦{readSh 0} rows m c) ∗ (∃ f, bufLoc c ↦[halfS 0]{fullShare} f) ∗ semVal (ldCell c 0) 0) from BI.Entails.refl _) $$ Hi0
    ihave Hi1 := (show (idle (rows m) c 1 : sProp 𝕄)
      ⊢ iprop((xLoc c ↦{readSh 1} rows m c) ∗ (∃ f, bufLoc c ↦[halfS 1]{fullShare} f) ∗ semVal (ldCell c 1) 0) from BI.Entails.refl _) $$ Hi1
    icases Hi0 with ⟨Hx0, Hb0, Hv0⟩
    icases Hi1 with ⟨Hx1, Hb1, Hv1⟩
    isplitl [Hx0 Hx1]
    · iapply (rows_whole c (rows m c)); isplitl [Hx0] <;> iassumption
    isplitr [Hv0 Hv1 HaS0 HaS1 HaS2 HaR0 HaR1 HaR2 HvB]
    · isplitl [Hb0 Hb1]
      · iapply (buf_whole c); isplitl [Hb0] <;> iassumption
      · iexists (comm (rows m) c)
        iapply (Entails.of_eq (comm_slots c (comm (rows m) c)).symm)
        isplitl [Hs0]; · iexact Hs0
        isplitl [Hs1]; · iexact Hs1
        isplitl [Hs2] <;> iassumption
    isplitl [Hv0 Hv1]; · isplitl [Hv0] <;> iassumption
    isplitl [HaS0 HaS1 HaS2]
    · isplitl [HaS0]; · iexact HaS0
      isplitl [HaS1] <;> iassumption
    isplitl [HaR0 HaR1 HaR2]
    · isplitl [HaR0]; · iexact HaR0
      isplitl [HaR1] <;> iassumption
    iexact HvB
  isplitl [HO]
  · iexists _; iexact HO
  · iexact Hout

/-! ## The pipeline's obligation -/

/-- What the pipeline holds before the one step, and what it asks for after it. -/
def stepPre (c : Dev nD) : sProp 𝕄 :=
  iprop(Φ₀ m c ∗ (dats m 0 c).owesAt () t₀.castSucc
    ∗ (∃ d : Vec F S1x1024 .f32, ∃ f : Buf (Elt F) (outLoc c), ⌜f = (dats m 0 c).before (0 : Fin 1) t₀ d⌝ ∗ (outLoc c ↦{fullShare} f)))
def stepPost (c : Dev nD) : sProp 𝕄 :=
  iprop(Φ₁ m c ∗ (dats m 0 c).owesAt () t₀.succ
    ∗ (∃ f : Buf (Elt F) (outLoc c), ⌜f = out (rows m) c⌝ ∗ (outLoc c ↦{fullShare} f)))

theorem obligation (c : Dev nD) : BodyObligation (dats (F := F) m 0 c) (defs₀ (F := F)) 𝒱₀ () Set.univ := fun t => by
  rw [only_step t, bigSep_W0, bigSep_W0]
  simp only [owns_buffer]
  show stepPre m c ⊢ runs c (cc0_body xM (Memref.isWhole_whole _) outM (Memref.isWhole_whole _) bufM (Memref.isWhole_whole _) cc0_scratch1
          commM (Memref.isWhole_whole _) cc0_scratch3 cc0_scratch4) (fun _ => stepPost m c)
  unfold stepPre Φ₀ start Dat.owesAt Pipeline.owesWithin
  rw [show (dats m 0 c).owed t₀.castSucc = owedAll c from rfl]
  iintro ⟨⟨⟨⟨%K, Hg⟩, Hv, HcB, HcR, Hlev, Hx⟩, Hbuf, Hcomm⟩, ⟨%W, %hW, HO⟩, ⟨%d, %fo, %hfo, Hout⟩⟩
  iapply (body_runs m K c W fun _ => stepPost m c)
  isplitl
  · unfold pre
    isplitl [Hg]; · iexact Hg
    isplitl [Hv]; · iexact Hv
    isplitl [HcB]; · iexact HcB
    isplitl [HcR]; · iexact HcR
    isplitl [Hlev]; · iexact Hlev
    isplitl [Hx]; · iexact Hx
    isplitl [Hbuf]; · iexact Hbuf
    isplitl [Hcomm]; · iexact Hcomm
    isplitl [HO]; · iexact HO
    iexists fo; iexact Hout
  · unfold post stepPost Dat.owesAt Pipeline.owesWithin
    rw [show (dats m 0 c).owed t₀.succ = 0 from rfl]
    iintro ⟨HΦ, ⟨%W', HO⟩, Hout⟩
    isplitl [HΦ]; · iexact HΦ
    isplitl [HO]
    · iexists W'
      isplitr; · ipureintro; exact fun _ _ => Or.inl trivial
      iexact HO
    · iexists _
      isplitr; · ipureintro; rfl
      iexact Hout

end Cert.KernelIdealRun

end
-- ==== Proof.KernelIdealLaunch.lean ====
/-
# The launch of the kernel on the four devices

Every device's cells are funded and opened at the launch, the tokens of the exchange go to the devices that pay them,
and the run of the four devices' programs ends with each result array at the mean of the four column sums, the
argument as it was and every semaphore at zero.
-/
module

public import proofs.«01_k».proof.Proof.KernelIdealBody
public import proofs.«01_k».proof.Proof.Gen.KernelIdeal.Points
public import Idealize.ShloMosaic.Lib.Pipeline.CollectiveSegs

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores -/

/-- Two for the staging slots, three for the copies sent, three for the copies received. -/
abbrev osem : Fin 8 → SemLoc sig :=
  ![.dma (ldS 0), .dma (ldS 1), .dma (sndS 0), .dma (sndS 1), .dma (sndS 2), .dma (rcvS 0), .dma (rcvS 1), .dma (rcvS 2)]

theorem ownSemFacts : Pipeline.OwnSemFacts cfg0.spec osem := by decide

abbrev ownSems (c : Dev nD) : sProp 𝕄 :=
  Pipeline.ownSems0 (Ix := Unit) (Name := ℕ) (U := UU) (Lvl := ℕ) (Val := Elt F) (τ := τ) osem c

theorem ownSems_eq (c : Dev nD) : (ownSems c : sProp 𝕄)
    = iprop(semVal (ldCell c 0) 0 ∗ semVal (ldCell c 1) 0 ∗ semVal (sndCell c 0) 0 ∗ semVal (sndCell c 1) 0 ∗ semVal (sndCell c 2) 0
        ∗ semVal (rcvCell c 0) 0 ∗ semVal (rcvCell c 1) 0 ∗ semVal (rcvCell c 2) 0) := by
  unfold ownSems
  rw [Pipeline.ownSems0_eq_of_list c osem [0, 1, 2, 3, 4, 5, 6, 7] (by decide) (by decide)]; rfl
/-- The barrier's is the one semaphore no kernel owns. -/
theorem barSem_eq (c : Dev nD) : (unscopedSems0 c : sProp 𝕄) = semVal (barCell c) 0 := by
  unfold unscopedSems0; rw [bigSep_eq_bigSepL_of_eq [SemLoc.reg barS] (by decide) (by decide)]; rfl

/-! ## Cells and tokens at launch -/

theorem csem_injective : Function.Injective csem := by decide

theorem kcell_injective : Function.Injective kcell := by
  rintro ⟨c, k⟩ ⟨c', k'⟩ h
  have hc : c = c' := congrArg (fun g : GSem nD τ sig => g.1.1) h
  have hk : k = k' := csem_injective (congrArg Prod.snd h)
  rw [hc, hk]

/-- The tokens of one device's cells: for each distance one of its barrier cell, one of the send cell, one of the receive
    cell. -/
def mint (p : Dev nD × Fin 3 × Fin 3) : GSem nD τ sig × ℕ × Fin 3 :=
  match p with
  | (c, d, 0) => (barCell c, 0, d)
  | (c, d, 1) => (sndCell c d, 0, 0)
  | (c, d, 2) => (rcvCell c d, 0, 0)

/-- What tells the tokens of one device apart. -/
def tag (d j : Fin 3) : Role × Fin 3 :=
  match j with
  | 0 => (.bar, d)
  | 1 => (.snd d, 0)
  | 2 => (.rcv d, 0)

theorem tag_injective : ∀ d j d' j' : Fin 3, tag d j = tag d' j' → d = d' ∧ j = j' := by decide

theorem tag_mint (p : Dev nD × Fin 3 × Fin 3) : (role (mint p).1.2, (mint p).2.2) = tag p.2.1 p.2.2 := by
  obtain ⟨c, d, j⟩ := p
  fin_cases j
  · rfl
  · exact Prod.ext (role_snd d) rfl
  · exact Prod.ext (role_rcv d) rfl

theorem mint_device (p : Dev nD × Fin 3 × Fin 3) : (mint p).1.1.1 = p.1 := by
  obtain ⟨c, d, j⟩ := p
  fin_cases j <;> rfl

theorem mint_injective : Function.Injective mint := by
  intro p p' h
  have hc : p.1 = p'.1 := by rw [← mint_device p, ← mint_device p', h]
  have ht := tag_injective p.2.1 p.2.2 p'.2.1 p'.2.2 (by rw [← tag_mint, ← tag_mint, h])
  exact Prod.ext hc (Prod.ext ht.1 ht.2)

def cells : Finset (GSem nD τ sig) := Finset.univ.map ⟨kcell, kcell_injective⟩
def tokens : Finset (GSem nD τ sig × ℕ × Fin 3) := Finset.univ.map ⟨mint, mint_injective⟩

/-- The ghost state at launch: the staging's, the exchange's, and no flight of a copy yet. -/
def u₀ : UU :=
  (initOf (Pipeline.cells cfgs cellOf_inj) (Pipeline.launchToks cfgs cellOf_inj), (initOf cells tokens, 1))

/-- The tokens of device `c`'s own cells. -/
def minted (c : Dev nD) : sProp 𝕄 :=
  bigSep Finset.univ fun d : Fin 3 => iprop(dutyTok EX (barCell c) 0 d ∗ dutyTok EX (sndCell c d) 0 0 ∗ dutyTok EX (rcvCell c d) 0 0)

/-- What a device gets of the ghost state at launch. -/
def G (c : Dev nD) : sProp 𝕄 :=
  iprop((bigSep Finset.univ fun k : Fin 7 => roundState EX (rd (rows m)) (kcell (c, k)) 0)
    ∗ (bigSep Finset.univ fun k : Fin 7 => atPos EX (kcell (c, k)) 0 ∅ 0)
    ∗ (bigSep Finset.univ fun k : Fin 7 => reached EX (kcell (c, k)) 0) ∗ minted c)

/-- What it has once the cells are open. -/
def G' (c : Dev nD) : sProp 𝕄 := iprop((∃ K, ghost (rows m) K c) ∗ (semVal (ldCell c 0) 0 ∗ semVal (ldCell c 1) 0))

theorem over_cells (Φ : GSem nD τ sig → sProp 𝕄) :
    bigSep cells Φ = bigSep Finset.univ fun c : Dev nD => bigSep Finset.univ fun k : Fin 7 => Φ (kcell (c, k)) := by
  unfold cells; rw [bigSep_map, bigSep_univ_prod]; rfl

theorem over_tokens : (bigSep tokens fun t => dutyTok EX t.1 t.2.1 t.2.2 : sProp 𝕄) = bigSep Finset.univ fun c : Dev nD => minted c := by
  unfold tokens minted
  rw [bigSep_map, bigSep_univ_prod]
  refine bigSep_congr fun c _ => ?_
  rw [bigSep_univ_prod]
  exact bigSep_congr fun d _ => bigSep_three _

theorem funding : BI.own (EX (initOf cells tokens)) ⊢ (|==> bigSep Finset.univ (G m) : sProp 𝕄) := by
  iintro HX
  imod (Rounds.fund EX (rd (rows m)) cells tokens) $$ HX with ⟨Hst, Hr, Hat, Htok⟩
  imodintro
  ihave Hst := (Entails.of_eq (over_cells fun g => roundState EX (rd (rows m)) g 0)) $$ Hst
  ihave Hat := (Entails.of_eq (over_cells fun g => atPos EX g 0 ∅ 0)) $$ Hat
  ihave Hr := (Entails.of_eq (over_cells fun g => reached EX g 0)) $$ Hr
  ihave Htok := (Entails.of_eq over_tokens) $$ Htok
  unfold G; simp only [bigSep_sep']
  isplitl [Hst]; · iexact Hst
  isplitl [Hat]; · iexact Hat
  isplitl [Hr] <;> iassumption

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Opening one device's cells; the two semaphores of the staging slots stay as they are. -/
theorem open_cells (c : Dev nD) :
    iprop(ownSems c ∗ unscopedSems0 c ∗ G m c)
      ⊢ |={Set.univ}=> iprop((bigSep Finset.univ fun k => iprop(∃ κ : ℕ, cellInv EX (rd (rows m)) κ (kcell (c, k))))
          ∗ (bigSep Finset.univ fun k : Fin 7 => atPos EX (kcell (c, k)) 0 ∅ 0)
          ∗ (bigSep Finset.univ fun k : Fin 7 => reached EX (kcell (c, k)) 0) ∗ minted c
          ∗ (semVal (ldCell c 0) 0 ∗ semVal (ldCell c 1) 0)) := by
  have hopen : iprop((bigSep Finset.univ fun k : Fin 7 => semVal (kcell (c, k)) 0)
        ∗ bigSep Finset.univ fun k : Fin 7 => roundState EX (rd (rows m)) (kcell (c, k)) 0)
      ⊢ (|={Set.univ}=> bigSep Finset.univ fun k => iprop(∃ κ : ℕ, cellInv EX (rd (rows m)) κ (kcell (c, k))) : sProp 𝕄) := by
    rw [← bigSep_sep']
    exact (bigSep_mono fun k _ => (Rounds.body_intro EX (rd (rows m)) (kcell (c, k))).trans inv_alloc).trans (bigSep_fupd _ _)
  unfold G
  rw [ownSems_eq, barSem_eq]
  iintro ⟨⟨Hl0, Hl1, Hs0, Hs1, Hs2, Hr0, Hr1, Hr2⟩, Hb, Hst, Hat, Hre, Htok⟩
  imod hopen $$ [Hs0 Hs1 Hs2 Hr0 Hr1 Hr2 Hb Hst] with HI
  · isplitr [Hst]
    · iapply (Entails.of_eq (bigSep_seven (F := F) fun k => semVal (kcell (c, k)) 0).symm)
      isplitl [Hb]; · iexact Hb
      isplitl [Hs0]; · iexact Hs0
      isplitl [Hs1]; · iexact Hs1
      isplitl [Hs2]; · iexact Hs2
      isplitl [Hr0]; · iexact Hr0
      isplitl [Hr1]; · iexact Hr1
      iexact Hr2
    · iexact Hst
  imodintro
  isplitl [HI]; · iexact HI
  isplitl [Hat]; · iexact Hat
  isplitl [Hre]; · iexact Hre
  isplitl [Htok]; · iexact Htok
  isplitl [Hl0] <;> iassumption

/-! ## The tokens go to the devices that pay them -/

/-- The barrier duty `d` of a device is paid by the device it is `d.rev` away from, -/
def payerBar : Dev nD × Fin 3 ≃ Dev nD × Fin 3 where
  toFun p := (up p.2 p.1, p.2.rev)
  invFun p := (up p.2 p.1, p.2.rev)
  left_inv := by rintro ⟨c, d⟩; exact Prod.ext (up_rev_up d c) (Fin.rev_rev d)
  right_inv := by rintro ⟨c, d⟩; exact Prod.ext (up_rev_up d c) (Fin.rev_rev d)

/-- and its arrival over distance `d` by the device at that distance before it. -/
def payerRcv : Dev nD × Fin 3 ≃ Dev nD × Fin 3 where
  toFun p := (up p.2 p.1, p.2)
  invFun p := (up p.2.rev p.1, p.2)
  left_inv := by rintro ⟨c, d⟩; exact Prod.ext (up_rev_up d c) rfl
  right_inv := by rintro ⟨c, d⟩; exact Prod.ext (up_up_rev d c) rfl

/-- Resources held device by device and distance by distance, renamed along a permutation of the pairs. -/
theorem redealt (e : Dev nD × Fin 3 ≃ Dev nD × Fin 3) (Φ : Dev nD × Fin 3 → sProp 𝕄) :
    (bigSep Finset.univ fun c : Dev nD => bigSep Finset.univ fun d : Fin 3 => Φ (c, d))
      ⊢ bigSep Finset.univ fun c : Dev nD => bigSep Finset.univ fun d : Fin 3 => Φ (e (c, d)) := by
  rw [← bigSep_univ_prod Φ, ← bigSep_univ_prod fun p => Φ (e p), bigSep_univ_equiv e]

theorem handed_out : (bigSep Finset.univ fun c : Dev nD => (minted c : sProp 𝕄))
    ⊢ bigSep Finset.univ fun c : Dev nD => bigSep Finset.univ fun d => payToks c d := by
  have hb := redealt (F := F) payerBar fun p => dutyTok EX (barCell p.1) 0 p.2
  have hr := redealt (F := F) payerRcv fun p => dutyTok EX (rcvCell p.1 p.2) 0 0
  unfold minted payToks
  simp only [bigSep_sep']
  iintro ⟨Hb, Hs, Hr⟩
  isplitl [Hb]
  · iapply hb; iexact Hb
  isplitl [Hr]
  · iapply hr; iexact Hr
  iexact Hs

/-- A device's seven places are its place at the barrier and its places distance by distance. -/
theorem places_of (c : Dev nD) : (bigSep Finset.univ fun k : Fin 7 => atPos EX (kcell (c, k)) 0 ∅ 0 : sProp 𝕄)
    ⊢ iprop(atPos EX (barCell c) 0 ∅ 0 ∗ bigSep Finset.univ fun d => places c d) := by
  rw [bigSep_seven, bigSep_three]
  unfold places
  iintro ⟨Hb, Hs0, Hs1, Hs2, Hr0, Hr1, Hr2⟩
  isplitl [Hb]; · iexact Hb
  isplitl [Hs0 Hr0]
  · isplitl [Hs0]; · iexact Hs0
    iexact Hr0
  isplitl [Hs1 Hr1]
  · isplitl [Hs1]; · iexact Hs1
    iexact Hr1
  isplitl [Hs2]; · iexact Hs2
  iexact Hr2

theorem dealt : (bigSep Finset.univ fun c : Dev nD =>
      iprop((bigSep Finset.univ fun k => iprop(∃ κ : ℕ, cellInv EX (rd (rows m)) κ (kcell (c, k))))
          ∗ (bigSep Finset.univ fun k : Fin 7 => atPos EX (kcell (c, k)) 0 ∅ 0)
          ∗ (bigSep Finset.univ fun k : Fin 7 => reached EX (kcell (c, k)) 0) ∗ minted c
          ∗ (semVal (ldCell c 0) 0 ∗ semVal (ldCell c 1) 0)) : sProp 𝕄)
      ⊢ bigSep Finset.univ (G' m) := by
  rw [bigSep_sep', bigSep_sep', bigSep_sep', bigSep_sep',
    ← bigSep_univ_prod (fun p : Dev nD × Fin 7 => iprop(∃ κ : ℕ, cellInv EX (rd (rows m)) κ (kcell p))),
    ← bigSep_univ_prod (fun p : Dev nD × Fin 7 => (reached EX (kcell p) 0 : sProp 𝕄))]
  iintro ⟨HI, Hat, #HR, Htok, Hld⟩
  ihave HK := (BI.bigSep_exists_pi Finset.univ (fun (p : Dev nD × Fin 7) (κ : ℕ) => (cellInv EX (rd (rows m)) κ (kcell p) : sProp 𝕄))) $$ HI
  icases HK with ⟨%K, #HI⟩
  ihave Htok := (handed_out (F := F)) $$ Htok
  have hat : (bigSep Finset.univ fun c : Dev nD => bigSep Finset.univ fun k : Fin 7 => atPos EX (kcell (c, k)) 0 ∅ 0 : sProp 𝕄)
      ⊢ bigSep Finset.univ fun c : Dev nD => iprop(atPos EX (barCell c) 0 ∅ 0 ∗ bigSep Finset.univ fun d => places c d) :=
    bigSep_mono fun c _ => places_of c
  ihave Hat := hat $$ Hat
  ihave Hrec := (BI.bigSep_of_persistent Finset.univ (records (F := F) (rows m) K) (I := Dev nD)) $$ []
  · unfold records; isplitr; · iexact HI
    iexact HR
  have hall : (bigSep Finset.univ fun c : Dev nD => iprop(records (rows m) K ∗ (atPos EX (barCell c) 0 ∅ 0 ∗ bigSep Finset.univ fun d => places c d)
      ∗ (bigSep Finset.univ fun d => payToks c d) ∗ (semVal (ldCell c 0) 0 ∗ semVal (ldCell c 1) 0)) : sProp 𝕄)
      ⊢ bigSep Finset.univ (G' m) := by
    refine bigSep_mono fun c _ => ?_
    show (iprop(records (rows m) K ∗ (atPos EX (barCell c) 0 ∅ 0 ∗ bigSep Finset.univ fun d => places c d)
      ∗ (bigSep Finset.univ fun d => payToks c d) ∗ (semVal (ldCell c 0) 0 ∗ semVal (ldCell c 1) 0)) : sProp 𝕄) ⊢ G' m c
    unfold G' ghost
    iintro ⟨Hrec, ⟨Hb, Hp⟩, Ht, Hv⟩
    isplitr [Hv]
    · iexists K
      isplitl [Hrec]; · iexact Hrec
      isplitl [Hb]; · iexact Hb
      isplitl [Hp] <;> iassumption
    · iexact Hv
  iapply hall
  simp only [bigSep_sep']
  isplitl [Hrec]; · iexact Hrec
  isplitl [Hat]; · iexact Hat
  isplitl [Htok] <;> iassumption

/-- All devices' cells open and dealt. -/
theorem opened : (bigSep Finset.univ fun c => iprop(ownSems c ∗ unscopedSems0 c ∗ G m c) : sProp 𝕄)
    ⊢ |={Set.univ}=> bigSep Finset.univ (G' m) :=
  ((bigSep_mono fun c _ => open_cells m c).trans (bigSep_fupd _ _)).trans (BI.fupd_mono (dealt m))

/-! ## The credit at launch -/

theorem bar_eq_iff {a b : Dev nD} : barCell a = barCell b ↔ a = b :=
  ⟨fun h => congrArg (fun g : GSem nD τ sig => g.1.1) h, fun h => h ▸ rfl⟩
theorem rcv_eq_iff {a b : Dev nD} {k k' : Fin 3} : rcvCell a k = rcvCell b k' ↔ a = b ∧ k = k' := by
  refine ⟨fun h => ⟨congrArg (fun g : GSem nD τ sig => g.1.1) h, ?_⟩, fun h => by rw [h.1, h.2]⟩
  have := congrArg (fun g : GSem nD τ sig => role g.2) h
  simpa [role_rcv] using this
theorem rcv_ne_bar {a b : Dev nD} {k : Fin 3} : rcvCell a k ≠ barCell b := fun h => nomatch congrArg Prod.snd h

/-- What one signal, and one copy, of device `d` puts on the cells of device `c`. -/
theorem bar_bar (d c : Dev nD) (k : Fin 3) :
    (tallyAt (barCell (up k d)) () 1 : CellTallies nD τ sig Unit) (barCell c) () = if d = up k.rev c then 1 else 0 := by
  rw [tallyAt_apply]
  exact if_congr (by rw [bar_eq_iff, up_eq_iff]; exact ⟨fun h => h.1, fun h => ⟨h, rfl⟩⟩) rfl rfl
theorem rcv_rcv (d c : Dev nD) (k j : Fin 3) :
    (tallyAt (rcvCell (up k d) k) () N : CellTallies nD τ sig Unit) (rcvCell c j) () = if j = k ∧ d = up j.rev c then N else 0 := by
  rw [tallyAt_apply]
  refine if_congr ?_ rfl rfl
  rw [rcv_eq_iff, up_eq_iff]
  constructor
  · rintro ⟨⟨h, rfl⟩, -⟩; exact ⟨rfl, h⟩
  · rintro ⟨rfl, h⟩; exact ⟨⟨h, rfl⟩, rfl⟩
theorem rcv_bar (d c : Dev nD) (k : Fin 3) : (tallyAt (rcvCell d k) () N : CellTallies nD τ sig Unit) (barCell c) () = 0 := by
  rw [tallyAt_apply, if_neg (fun h => rcv_ne_bar h.1.symm)]
theorem bar_rcv (d c : Dev nD) (k : Fin 3) : (tallyAt (barCell d) () 1 : CellTallies nD τ sig Unit) (rcvCell c k) () = 0 := by
  rw [tallyAt_apply, if_neg (fun h => rcv_ne_bar h.1)]

theorem add_at (A B : CellTallies nD τ sig Unit) (g : GSem nD τ sig) : (A + B) g () = A g () + B g () := by
  rw [Pi.add_apply, Finsupp.add_apply]

theorem owed_bar (d c : Dev nD) : owedAll d (barCell c) ()
    = (if d = up 2 c then 1 else 0) + (if d = up 1 c then 1 else 0) + (if d = up 0 c then 1 else 0) := by
  unfold owedAll owedCopies
  rw [add_at, add_at, add_at, add_at, add_at, rcv_bar, rcv_bar, rcv_bar, bar_bar, bar_bar, bar_bar]
  show 0 + 0 + 0 + (if d = up 0 c then 1 else 0) + (if d = up 1 c then 1 else 0) + (if d = up 2 c then 1 else 0) = _
  omega
theorem owed_rcv (d c : Dev nD) (k : Fin 3) : owedAll d (rcvCell c k) () = if d = up k.rev c then N else 0 := by
  unfold owedAll owedCopies
  rw [add_at, add_at, add_at, add_at, add_at, rcv_rcv, rcv_rcv, rcv_rcv, bar_rcv, bar_rcv, bar_rcv]
  fin_cases k <;> simp

theorem launch_bar (c : Dev nD) :
    tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_add_distrib, Finset.sum_add_distrib]
  simp only [Finset.sum_ite_eq', Finset.mem_univ, if_true]
theorem launch_rcv (c : Dev nD) (k : Fin 3) :
    tallyOn (rcvCell c k) (launchCredit (Pipeline.owing owedAll) 0 (rcvCell c k)) = (tallyAt (rcvCell c k) () N : CellTallies nD τ sig Unit) := by
  unfold tallyAt; refine congrArg _ (Finsupp.ext fun u => ?_); cases u
  rw [Pipeline.launchCredit_owing, Finsupp.single_eq_same, Finset.sum_congr rfl fun d _ => owed_rcv d c k]
  simp only [Finset.sum_ite_eq', Finset.mem_univ, if_true]

/-- The semaphores a device is given credit for. -/
abbrev credited : Finset (SemLoc sig) := {.reg barS, .dma (rcvS 0), .dma (rcvS 1), .dma (rcvS 2)}

theorem credit (c : Dev nD) : (Pipeline.launchCred owedAll c : sProp 𝕄)
    ⊢ iprop(cred (tallyAt (barCell c) () 3) ∗ bigSep Finset.univ fun d : Fin 3 => cred (tallyAt (rcvCell c d) () N)) := by
  unfold Pipeline.launchCred
  refine (bigSep_subset (Finset.subset_univ credited)).trans ?_
  rw [bigSep_three, bigSep_eq_bigSepL_of_eq [SemLoc.reg barS, .dma (rcvS 0), .dma (rcvS 1), .dma (rcvS 2)] (by decide) (by decide),
    ← launch_bar, ← launch_rcv, ← launch_rcv, ← launch_rcv]
  exact BI.Entails.refl _

/-! ## The ends of the run -/

theorem begins (ρ : Dev nD → PrngReg) (c : Dev nD) :
    iprop(Pipeline.unscopedRestP Pipeline.Prefetch.none cfg0.spec c (fun b => m ((c : Thread nD τ).loc b)) ∗ levAts L lv
        ∗ Pipeline.launchCred owedAll c ∗ prngReg c (ρ c) ∗ G' m c)
      ⊢ |={Set.univ}=> iprop(start m c ∗ emp) := by
  unfold G'
  iintro ⟨Hx, Hlev, Hcr, -, ⟨HG, Hv⟩⟩
  ihave Hc := (credit (F := F) c) $$ Hcr
  icases Hc with ⟨HcB, HcR⟩
  ihave Hx := (show Pipeline.unscopedRestP Pipeline.Prefetch.none cfg0.spec c (fun b => m ((c : Thread nD τ).loc b))
      ⊢ (xLoc c ↦{fullShare} rows m c : sProp 𝕄) from
    Entails.of_eq (unscopedRest0_eq c fun b => m ((c : Thread nD τ).loc b))) $$ Hx
  imodintro
  unfold start
  isplitl
  · isplitl [HG]; · iexact HG
    isplitl [Hv]; · iexact Hv
    isplitl [HcB]; · iexact HcB
    isplitl [HcR]; · iexact HcR
    isplitl [Hlev]; · iexact Hlev
    iexact Hx
  · iempintro

theorem enters (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hb, Hc⟩
  isplitl [Hs]; · iexact Hs
  isplitl [Hb] <;> iassumption

theorem leaves (c : Dev nD) :
    (dats m 0 c).Φ (Fin.last cfg0.N)
      ⊢ iprop(((xLoc c ↦{fullShare} rows m c) ∗ unscopedSems0 c) ∗ ownSems c ∗ Pipeline.scopedRest cfg0.spec c) := by
  rw [show (dats m 0 c).Φ (Fin.last cfg0.N) = Φ₁ m c from rfl, scopedRest0_eq, ownSems_eq, barSem_eq]
  unfold Φ₁
  iintro ⟨Hx, Hbuf, ⟨Hl0, Hl1⟩, ⟨Hs0, Hs1, Hs2⟩, ⟨Hr0, Hr1, Hr2⟩, Hb⟩
  isplitl [Hx Hb]
  · isplitl [Hx] <;> iassumption
  isplitr [Hbuf]
  · isplitl [Hl0]; · iexact Hl0
    isplitl [Hl1]; · iexact Hl1
    isplitl [Hs0]; · iexact Hs0
    isplitl [Hs1]; · iexact Hs1
    isplitl [Hs2]; · iexact Hs2
    isplitl [Hr0]; · iexact Hr0
    isplitl [Hr1] <;> iassumption
  · iexact Hbuf

/-- The staging semaphore comes before every cell a device owes. -/
theorem staging_waits (c : Dev nD) : (levAts L lv : sProp 𝕄) ⊢ Pipeline.cellsWaits cfgs (dats m) () 0 c :=
  Pipeline.cellsWaits_intro cfgs (dats m) () 0 c fun w s t => by
    rcases t with ⟨_ | _, ht⟩
    · refine may_wait c _ (owedAll c) fun g u hg => ⟨(all_pos hg).1, lt_of_eq_of_lt ?_ (all_pos hg).2⟩
      fin_cases w; fin_cases s; rfl
    · refine may_wait c _ (0 : CellTallies nD τ sig Unit) fun g u hg => absurd hg (Nat.lt_irrefl 0)

theorem share_full (c : Dev nD) (w : Fin cfg0.W) : (dats m 0 c).share w = fullShare := by unfold Dat.share; split <;> rfl

/-- What the semaphores and the argument of device `c` are at the end. -/
def AtEnd (c : Dev nD) (s : MemSt nD τ sig (Elt F)) : Prop :=
  (∀ sm : SemLoc sig, sm.isScoped .tc = false → s.sem ((c.tc : Thread nD τ), sm) = 0) ∧ s.mem (xLoc c) = rows m c

theorem read_end (c : Dev nD) (s' : Phys nD τ sig (Elt F)) :
    iprop(((xLoc c ↦{fullShare} rows m c) ∗ unscopedSems0 c) ∗ (emp : sProp 𝕄) ∗ SI s')
      ⊢ |={Set.univ}=> iprop(⌜AtEnd m c s'.mem⌝ ∗ SI s') := by
  iintro ⟨⟨Hx, Hu⟩, -, HSI⟩
  ihave %hx := (show iprop(SI s' ∗ (xLoc c ↦{fullShare} rows m c)) ⊢ (⌜∀ i ∈ Finset.univ, s'.mem.mem (xLoc c) i = rows m c i⌝ : sProp 𝕄)
    from SI_pointsTo_agree) $$ [HSI Hx]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro; exact ⟨hu, funext fun i => hx i (Finset.mem_univ i)⟩
  · iexact HSI

/-! ## The result array -/

/-- The result's one block lies at the start of the array on both axes, -/
theorem block_at_zero (a : Fin win0_0.shape.rank) : win0_0.index t₀ a = 0 := by revert a; decide

theorem block_val (y : (win0_0.xblock (grid0.coords t₀)).Idx) (a : Fin win0_0.shape.rank) :
    ((win0_0.rect t₀).emb y a : Nat) = y a :=
  win0_0.rect_emb_val_of_index_zero t₀ a (block_at_zero a) y

/-- so the block is the array: every element is in it, -/
theorem block_cover (i : S1x1024.Idx) : i ∈ ((cfg0.win 0).blk t₀).view.set := by
  show i ∈ ((View.whole main_v1).slice (win0_0.rect t₀)).set
  rw [View.set_slice_whole, Rect.mem_set_unit]
  intro a
  have e : win0_0.index t₀ a * win0_0.size a = 0 ∧ win0_0.xsize (grid0.coords t₀) a = S1x1024.size a := by revert a; decide +kernel
  show win0_0.index t₀ a * win0_0.size a ≤ (i a : Nat) ∧ (i a : Nat) < win0_0.index t₀ a * win0_0.size a + win0_0.xsize (grid0.coords t₀) a
  rw [e.1, e.2, zero_add]
  exact ⟨Nat.zero_le _, (i a).isLt⟩

/-- and the array ends holding what the body left in the staging buffer. -/
theorem result_eq (c : Dev nD) : (dats m 0 c).arrAt (0 : Fin 1) cfg0.N = out (rows m) c := by
  refine (dats m 0 c).arrAt_eq_of_cover (0 : Fin 1) (out (rows m) c) (fun t _ => ?_) fun i => ⟨t₀, flush0_0 _, block_cover i⟩
  obtain rfl := only_step t
  funext y
  refine congrArg (out (rows m) c) (funext fun a => Fin.ext ?_)
  exact (block_val y a).symm

/-! ## The run -/

/-- The final state: on every device the result is the mean of the four column sums and the argument is as it was, and
    every semaphore is at zero. -/
def Final (m : (ℓ : Loc nD τ sig) → Buf (Elt F) ℓ) (s : MemSt nD τ sig (Elt F)) : Prop :=
  (∀ c : Dev nD, s.mem ((c : Thread nD τ).loc main_v1) = out (rows m) c
    ∧ s.mem ((c : Thread nD τ).loc main_arg0) = m ((c : Thread nD τ).loc main_arg0)) ∧ s.sem = fun _ => 0

set_option maxRecDepth 8000 in
/-- From any memory with every semaphore at zero, every weakly fair run of the four devices ends, in a final state. -/
theorem run_main (ρ : Dev nD → PrngReg) : θ_run defs (onTc (τ := τ) (main (F := F))) ⟨m, fun _ => 0, ρ⟩ (fun r => Final m r.2) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := obligation m) (hne := block_pos0) (harr := arr_whole0) (hstage := stage_whole0) (hshare := share_full m)
    (hdistinct := winFacts0.arr_inj)
    (O₀ := owedAll) (howed₀ := fun _ => rfl) (howedN := fun _ => rfl)
    (L := L) (lv := lv) (hL := L_of_ne) (hwaits := staging_waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (show BI.own (((Emb.inl : Emb UX (UX × Counters)).trans embR) (initOf cells tokens))
        ⊢ (BI.own (EX (initOf cells tokens)) : sProp 𝕄) from BI.Entails.refl _) $$ HX
      imod (funding m) $$ HX with HG
      imodintro
      isplitl [HP] <;> iassumption)
    (hglob := opened m)
    (hA := fun _ _ => rfl) (hpf := fun _ k => k.elim0)
    (X := start m) (Y := fun c => iprop((xLoc c ↦{fullShare} rows m c) ∗ unscopedSems0 c)) (Z := fun _ => iprop(emp))
    (hX := begins m ρ) (hin := enters m) (hout := leaves m)
    (QY := AtEnd m) (hY := read_end m)
    (hQ := fun s h hs => ⟨fun c => ⟨((h c).1 0).trans (result_eq m c), (h c).2.2.2⟩, sem_eq_zero hs fun c => (h c).2.2.1⟩)

end Cert.KernelIdealRun

end
-- ==== Proof.ColumnSums.lean ====
/-
# Sums cut into equal pieces

Adding up a long column is adding up the sums of its equal pieces. Nothing here is about a program: the values
are those of any commutative monoid, of which the extended reals under addition are one.
-/
module

public import Mathlib.Algebra.BigOperators.Fin

@[expose] public section

namespace Cert.ColumnSums

variable {M : Type} [AddCommMonoid M]

/-- Place `r` of piece `j` is place `k j + r` of the whole. -/
theorem place_lt {n k : ℕ} (j : Fin n) (r : Fin k) : k * j.val + r.val < n * k :=
  calc k * j.val + r.val < k * j.val + k := Nat.add_lt_add_left r.isLt _
    _ = (j.val + 1) * k := by rw [Nat.succ_mul, Nat.mul_comm]
    _ ≤ n * k := Nat.mul_le_mul_right _ j.isLt

/-- A sum over `n k` places is the sum over `n` pieces of the sums over their `k` places. -/
theorem sum_pieces {n k : ℕ} (f : Fin (n * k) → M) :
    ∑ i, f i = ∑ j : Fin n, ∑ r : Fin k, f ⟨k * j.val + r.val, place_lt j r⟩ := by
  rw [← Fintype.sum_prod_type' (f := fun (j : Fin n) (r : Fin k) => f ⟨k * j.val + r.val, place_lt j r⟩),
    ← finProdFinEquiv.sum_comp f]
  refine Finset.sum_congr rfl fun p _ => congrArg f (Fin.ext ?_)
  exact Nat.add_comm _ _

/-- The sum of eight values added one after the other, starting from zero. -/
theorem sum_eight (g : Fin 8 → M) :
    0 + g 0 + g 1 + g 2 + g 3 + g 4 + g 5 + g 6 + g 7 = ∑ j, g j := by
  rw [zero_add, Fin.sum_univ_eight]

end Cert.ColumnSums

end
-- ==== Proof.KernelIdealValue.lean ====
/-
# The kernel's result is the mean over the rows

In exact arithmetic a device's eight partial sums add up to its column sums, the four devices' column sums add
up to the column sums of the whole array in whatever order a device takes them, and scaling by 1/8192 is
dividing by the number of rows.
-/
module

public import proofs.«01_k».proof.Proof.KernelIdealSlots
public import proofs.«01_k».proof.Proof.ColumnSums
public import proofs.«01_k».proof.Proof.Gen.ReferenceIdeal.Run
public import Idealize.ShloMosaic.Lib.Pointwise
public import Idealize.ShloMosaic.Lib.Layout

@[expose] public section

set_option maxRecDepth 16384

noncomputable section

namespace Cert.KernelIdealRun

open Cert.KernelIdeal Cert.KernelIdeal.Gen
open Idealize.ShloMosaic
open Cert.ColumnSums

/-! ## The two constants -/

/-- The kernel's factor is 1/8192, -/
theorem factor_eq : Ideal.ofBits .f32 0x39000000#32 = (((1 : ℝ) / 8192 : ℝ) : EReal) := by
  simp [Ideal.ofBits, Ideal.ieee, -EReal.coe_mul]; norm_num

/-- the reference's divisor is 8192, -/
theorem divisor_eq : Ideal.ofBits .f32 0x46000000#32 = ((8192 : ℝ) : EReal) := by
  simp [Ideal.ofBits, Ideal.ieee, -EReal.coe_mul]; norm_num

/-- so multiplying by the one is dividing by the other. -/
theorem scale_eq (a : EReal) :
    a * Ideal.ofBits .f32 0x39000000#32 = Ideal.div a (Ideal.ofBits .f32 0x46000000#32) := by
  rw [factor_eq, divisor_eq, Ideal.div_coe (by norm_num)]

/-! ## One device's column sums -/

variable (x : Dev nD → Vec Ideal S2048x1024 .f32)

/-- Row `r`, column `l` of block `j` is row `256 j + r` of the device's rows. -/
theorem blk_apply (c : Dev nD) (j : Fin 8) (r : Fin 256) (l : Fin 1024) :
    blk x c j (ix3 0 r l) = x c (ix2 ⟨256 * j.val + r.val, place_lt j r⟩ l) := by
  have h : blk x c j (ix3 0 r l) = (blkM j).view.read (Elt Ideal) (x c) (ix2 r l) := by
    unfold blk
    pointwise
  rw [h]
  refine congrArg (x c) (funext fun a => Fin.ext ?_)
  fin_cases a
  · show 256 * j.val + 1 * r.val = 256 * j.val + r.val
    rw [Nat.one_mul]
  · show 0 + 1 * l.val = l.val
    omega

/-- The column sums of a device's rows: entry `l` is the sum of column `l`. -/
theorem acc_apply (c : Dev nD) (l : Fin 1024) :
    acc x c (ix3 0 0 l) = ∑ r : Fin 2048, x c (ix2 r l) := by
  have h : acc x c (ix3 0 0 l)
      = 0 + (∑ r, blk x c 0 (ix3 0 r l)) + (∑ r, blk x c 1 (ix3 0 r l)) + (∑ r, blk x c 2 (ix3 0 r l))
        + (∑ r, blk x c 3 (ix3 0 r l)) + (∑ r, blk x c 4 (ix3 0 r l)) + (∑ r, blk x c 5 (ix3 0 r l))
        + (∑ r, blk x c 6 (ix3 0 r l)) + (∑ r, blk x c 7 (ix3 0 r l)) := by
    unfold acc
    pointwise [k0_pay6, k0_pay5, k0_pay4, k0_pay3, k0_pay2]
  rw [h, sum_eight fun j => ∑ r, blk x c j (ix3 0 r l), sum_pieces (n := 8) (k := 256) fun r => x c (ix2 r l)]
  exact Finset.sum_congr rfl fun j _ => Finset.sum_congr rfl fun r _ => blk_apply x c j r l

/-! ## All the devices -/

/-- The devices at distances 0, 1, 2, 3 before a device are all the devices. -/
theorem before_bijective (c : Dev nD) : Function.Bijective fun k : Fin 4 => before k c := by
  revert c; decide

/-- So a sum taken in that order is the sum over the devices. -/
theorem sum_before (g : Dev nD → EReal) (c : Dev nD) :
    g (before 0 c) + g (before 1 c) + g (before 2 c) + g (before 3 c) = ∑ d, g d := by
  rw [← (before_bijective c).sum_comp g, Fin.sum_univ_four]

/-- A device's result: entry `l` is the sum of column `l` over all the devices' rows, divided by 8192. -/
theorem out_apply (c : Dev nD) (l : Fin 1024) :
    out x c (ix2 0 l)
      = Ideal.div (∑ d : Dev nD, ∑ r : Fin 2048, x d (ix2 r l)) (Ideal.ofBits .f32 0x46000000#32) := by
  have h : out x c (ix2 0 l)
      = (acc x (before 0 c) (ix3 0 0 l) + acc x (before 1 c) (ix3 0 0 l) + acc x (before 2 c) (ix3 0 0 l)
          + acc x (before 3 c) (ix3 0 0 l)) * Ideal.ofBits .f32 0x39000000#32 := by
    unfold out
    pointwise [k0_pay1, k0_pay7]
  rw [h, scale_eq, sum_before (fun d => acc x d (ix3 0 0 l)) c]
  exact congrArg (Ideal.div · _) (Finset.sum_congr rfl fun d _ => acc_apply x d l)

/-! ## The reference -/

/-- The reference's result on the whole array `X`: the column sums over the 8192 rows, divided by 8192. -/
def mean (X : FVec Ideal Cert.ReferenceIdeal.S8192x1024 .f32) : FVec Ideal Cert.ReferenceIdeal.S1x1024 .f32 :=
  Host.divf
    (broadcastInDim Cert.ReferenceIdeal.S1x1024 ![1] Cert.ReferenceIdeal.Gen.facts.bcast_S1024_S1x1024_1
      (Host.reduceAdd X (constant Cert.ReferenceIdeal.S_ .f32 0x00000000#32)
        Cert.ReferenceIdeal.Gen.facts.reducesTo_S8192x1024_S1024_d0 Cert.ReferenceIdeal.Gen.facts.h_S_))
    (broadcastInDim Cert.ReferenceIdeal.S1x1024 ![] Cert.ReferenceIdeal.Gen.facts.bcast_S_S1x1024
      (constant Cert.ReferenceIdeal.S_ .f32 0x46000000#32))

/-- Its entry `l`. -/
theorem mean_apply (X : FVec Ideal Cert.ReferenceIdeal.S8192x1024 .f32) (l : Fin 1024) :
    mean X (ix2 0 l) = Ideal.div (∑ r : Fin 8192, X (ix2 r l)) (Ideal.ofBits .f32 0x46000000#32) := by
  unfold mean
  pointwise

/-- Where each device holds its 2048 of the 8192 rows of `X`, every device's result is the reference's. -/
theorem out_eq_mean (X : FVec Ideal Cert.ReferenceIdeal.S8192x1024 .f32)
    (hx : ∀ c : Dev nD, x c = Layout.block ⟨2, ![2048, 1024]⟩ ⟨2, ![8192, 1024]⟩ 0 4 c X) (c : Dev nD) :
    out x c = mean X := by
  funext i
  obtain ⟨l, rfl⟩ : ∃ l : Fin 1024, i = ix2 0 l :=
    ⟨i 1, (eq_ix2 i).trans (congrArg (fun a : Fin 1 => ix2 a (i 1)) (Subsingleton.elim _ _))⟩
  rw [out_apply, mean_apply, sum_pieces (n := 4) (k := 2048) fun r => X (ix2 r l)]
  refine congrArg (Ideal.div · _) (Finset.sum_congr rfl fun d _ => Finset.sum_congr rfl fun r _ => ?_)
  rw [hx d, Layout.block_apply]
  refine congrArg X (funext fun a => Fin.ext ?_)
  fin_cases a
  · exact congrArg (· + r.val) (Nat.mul_comm d.val 2048)
  · rfl

end Cert.KernelIdealRun

end
-- ==== Proof.lean ====
/-
# The claims

The kernel averages the rows of an array cut over four devices: each device adds up its own rows, sends the
row of sums to the other three, adds up the four rows it then holds and scales. Here the run of the kernel, at
machine floats and in exact arithmetic, the run of the reference and the equation between their results are put
together.
-/
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelLaunch
public import proofs.«01_k».proof.Proof.KernelIdealLaunch
public import proofs.«01_k».proof.Proof.KernelIdealValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel at machine floats: every execution ends, with the argument unchanged and every counter at zero. -/
theorem frame_kernel : Cert.quiescent_Kernel (hKernel := Cert.Kernel.Gen.facts) := fun m g _ =>
  (θ_run Cert.Kernel.defs _ _).mono (fun _ h => ⟨fun c => (h.1 c).2, h.2⟩)
    (Cert.KernelRun.run_main (F := Bits) m g)

/-- The kernel in exact arithmetic: the same. -/
theorem frame_kernelIdeal : Cert.quiescent_KernelIdeal (hKernelIdeal := Cert.KernelIdeal.Gen.facts) := fun m g _ =>
  (θ_run Cert.KernelIdeal.defs _ _).mono (fun _ h => ⟨fun c => (h.1 c).2, h.2⟩)
    (Cert.KernelIdealRun.run_main (F := Ideal) m g)

/-- The reference: it ends with its argument unchanged, and it has no counter. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- In exact arithmetic, where each device holds its quarter of the rows, every device ends with the reference's mean. -/
theorem mean_everywhere : Cert.algebraic_KernelIdeal_ReferenceIdeal
    (hKernelIdeal := Cert.KernelIdeal.Gen.facts) (hReferenceIdeal := Cert.ReferenceIdeal.Gen.facts) :=
  fun m g m' g' _ hx =>
    ⟨Cert.KernelIdealRun.mean (m' (((0 : Dev Cert.ReferenceIdeal.nD).tc :
        Thread Cert.ReferenceIdeal.nD Cert.ReferenceIdeal.τ).loc Cert.ReferenceIdeal.main_arg0)),
      (θ_run Cert.KernelIdeal.defs _ _).mono
        (fun _ h c => ⟨(h.1 c).1.trans (Cert.KernelIdealRun.out_eq_mean (Cert.KernelIdealRun.rows m) _ hx c), (h.1 c).2⟩)
        (Cert.KernelIdealRun.run_main (F := Ideal) m g),
      (θ_run Cert.ReferenceIdeal.defs _ _).mono (fun _ h => h 0)
        (Cert.ReferenceIdeal.Value.run (F := Ideal) m' g')⟩

/-- All the claims together; the two kernels are one text, so that the claim that the second keeps the first is trivial. -/
theorem claim : Cert.Claim :=
  ⟨Cert.Kernel.Gen.facts, Cert.KernelIdeal.Gen.facts, Cert.ReferenceIdeal.Gen.facts,
    frame_kernel, frame_kernelIdeal, frame_reference, trivial, mean_everywhere⟩

end Cert.Proof

end
